-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S13 : Shape := ⟨1, ![13]⟩
abbrev S_ : Shape := ⟨0, ![]⟩
abbrev S1 : Shape := ⟨1, ![1]⟩
abbrev S32x512 : Shape := ⟨2, ![32, 512]⟩
abbrev S1x32x512 : Shape := ⟨3, ![1, 32, 512]⟩
abbrev S128x512 : Shape := ⟨2, ![128, 512]⟩
abbrev S1x128x512 : Shape := ⟨3, ![1, 128, 512]⟩
abbrev S1x512x512 : Shape := ⟨3, ![1, 512, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S512x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v33 : BitVec 32 := Scalar.muli v10 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_off1 (d0 : Dev nD) (c0_i32_32 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_31 : BitVec 32 := 128#32
  let v48 : BitVec 32 := Scalar.muli v13 c128_i32_31
  let v49 : BitVec 32 := Scalar.addi v48 c0_i32_32
  let c0_i32_40 : BitVec 32 := 0#32
  ![v49.toNat, 0]
def k0_off2 (d0 : Dev nD) (c0_i32_30 : BitVec 32) : Fin 3 → Nat :=
  let c0_i32_33 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v46 : BitVec 32 := Scalar.muli v13 c128_i32
  let v47 : BitVec 32 := Scalar.addi v46 c0_i32_30
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.subi c1_i32_28 v2
  let c512_i32 : BitVec 32 := 512#32
  let v44 : BitVec 32 := Scalar.muli v43 c512_i32
  ![0, v47.toNat, v44.toNat]
def k0_dev4 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v50 : BitVec 32 := Scalar.muli v9 c4_i32_36
  let v51 : BitVec 32 := Scalar.addi c0_i32_37 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v52 : BitVec 32 := Scalar.muli v5 c2_i32_38
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v54 : BitVec 32 := Scalar.muli v8 c1_i32_39
  let v55 : BitVec 32 := Scalar.addi v53 v54
  v55.toNat
def k0_dev5 (d0 : Dev nD) : Nat :=
  let c0_i32_48 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_47 : BitVec 32 := 4#32
  let v67 : BitVec 32 := Scalar.muli v9 c4_i32_47
  let v68 : BitVec 32 := Scalar.addi c0_i32_48 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v69 : BitVec 32 := Scalar.muli v5 c2_i32_49
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v71 : BitVec 32 := Scalar.muli v8 c1_i32_50
  let v72 : BitVec 32 := Scalar.addi v70 v71
  v72.toNat
def k0_dev6 (d0 : Dev nD) : Nat :=
  let c0_i32_59 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_58 : BitVec 32 := 4#32
  let v84 : BitVec 32 := Scalar.muli v9 c4_i32_58
  let v85 : BitVec 32 := Scalar.addi c0_i32_59 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v86 : BitVec 32 := Scalar.muli v5 c2_i32_60
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v88 : BitVec 32 := Scalar.muli v8 c1_i32_61
  let v89 : BitVec 32 := Scalar.addi v87 v88
  v89.toNat
def k0_dev7 (d0 : Dev nD) : Nat :=
  let c0_i32_70 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_69 : BitVec 32 := 4#32
  let v101 : BitVec 32 := Scalar.muli v9 c4_i32_69
  let v102 : BitVec 32 := Scalar.addi c0_i32_70 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v103 : BitVec 32 := Scalar.muli v5 c2_i32_71
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v105 : BitVec 32 := Scalar.muli v8 c1_i32_72
  let v106 : BitVec 32 := Scalar.addi v104 v105
  v106.toNat
def k0_off3 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_75 : BitVec 32 := 128#32
  let v115 : BitVec 32 := Scalar.muli v23 c128_i32_75
  let c0_i32_83 : BitVec 32 := 0#32
  ![v115.toNat, 0]
def k0_off4 (d0 : Dev nD) : Fin 3 → Nat :=
  let c0_i32_76 : BitVec 32 := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_74 : BitVec 32 := 128#32
  let v114 : BitVec 32 := Scalar.muli v23 c128_i32_74
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.subi c1_i32_28 v2
  let c512_i32 : BitVec 32 := 512#32
  let v44 : BitVec 32 := Scalar.muli v43 c512_i32
  ![0, v114.toNat, v44.toNat]
def k0_dev8 (d0 : Dev nD) : Nat :=
  let c0_i32_80 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_79 : BitVec 32 := 4#32
  let v116 : BitVec 32 := Scalar.muli v9 c4_i32_79
  let v117 : BitVec 32 := Scalar.addi c0_i32_80 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v118 : BitVec 32 := Scalar.muli v5 c2_i32_81
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v120 : BitVec 32 := Scalar.muli v8 c1_i32_82
  let v121 : BitVec 32 := Scalar.addi v119 v120
  v121.toNat
def k0_dev9 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v141 : BitVec 32 := Scalar.muli v2 c4_i32_95
  let v142 : BitVec 32 := Scalar.addi c0_i32_96 v141
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_97 : BitVec 32 := 2#32
  let v143 : BitVec 32 := Scalar.muli v10 c2_i32_97
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v145 : BitVec 32 := Scalar.muli v8 c1_i32_98
  let v146 : BitVec 32 := Scalar.addi v144 v145
  v146.toNat
def k0_dev10 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v153 : BitVec 32 := Scalar.muli v2 c4_i32_102
  let v154 : BitVec 32 := Scalar.addi c0_i32_103 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v155 : BitVec 32 := Scalar.muli v5 c2_i32_104
  let v156 : BitVec 32 := Scalar.addi v154 v155
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_105 : BitVec 32 := 1#32
  let v157 : BitVec 32 := Scalar.muli v11 c1_i32_105
  let v158 : BitVec 32 := Scalar.addi v156 v157
  v158.toNat
def k0_dev11 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v177 : BitVec 32 := Scalar.muli v2 c4_i32_119
  let v178 : BitVec 32 := Scalar.addi c0_i32_120 v177
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_121 : BitVec 32 := 2#32
  let v179 : BitVec 32 := Scalar.muli v10 c2_i32_121
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v181 : BitVec 32 := Scalar.muli v8 c1_i32_122
  let v182 : BitVec 32 := Scalar.addi v180 v181
  v182.toNat
def k0_dev12 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v189 : BitVec 32 := Scalar.muli v2 c4_i32_126
  let v190 : BitVec 32 := Scalar.addi c0_i32_127 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v191 : BitVec 32 := Scalar.muli v5 c2_i32_128
  let v192 : BitVec 32 := Scalar.addi v190 v191
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_129 : BitVec 32 := 1#32
  let v193 : BitVec 32 := Scalar.muli v11 c1_i32_129
  let v194 : BitVec 32 := Scalar.addi v192 v193
  v194.toNat
def k0_dev13 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v213 : BitVec 32 := Scalar.muli v2 c4_i32_143
  let v214 : BitVec 32 := Scalar.addi c0_i32_144 v213
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_145 : BitVec 32 := 2#32
  let v215 : BitVec 32 := Scalar.muli v10 c2_i32_145
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v217 : BitVec 32 := Scalar.muli v8 c1_i32_146
  let v218 : BitVec 32 := Scalar.addi v216 v217
  v218.toNat
def k0_dev14 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v225 : BitVec 32 := Scalar.muli v2 c4_i32_150
  let v226 : BitVec 32 := Scalar.addi c0_i32_151 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_152 : BitVec 32 := 2#32
  let v227 : BitVec 32 := Scalar.muli v5 c2_i32_152
  let v228 : BitVec 32 := Scalar.addi v226 v227
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_153 : BitVec 32 := 1#32
  let v229 : BitVec 32 := Scalar.muli v11 c1_i32_153
  let v230 : BitVec 32 := Scalar.addi v228 v229
  v230.toNat
def k0_dev15 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v249 : BitVec 32 := Scalar.muli v2 c4_i32_167
  let v250 : BitVec 32 := Scalar.addi c0_i32_168 v249
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_169 : BitVec 32 := 2#32
  let v251 : BitVec 32 := Scalar.muli v10 c2_i32_169
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v253 : BitVec 32 := Scalar.muli v8 c1_i32_170
  let v254 : BitVec 32 := Scalar.addi v252 v253
  v254.toNat
def k0_dev16 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v261 : BitVec 32 := Scalar.muli v2 c4_i32_174
  let v262 : BitVec 32 := Scalar.addi c0_i32_175 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v263 : BitVec 32 := Scalar.muli v5 c2_i32_176
  let v264 : BitVec 32 := Scalar.addi v262 v263
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_177 : BitVec 32 := 1#32
  let v265 : BitVec 32 := Scalar.muli v11 c1_i32_177
  let v266 : BitVec 32 := Scalar.addi v264 v265
  v266.toNat
def k0_off5 (d0 : Dev nD) (c0_i32_181 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c128_i32_180 : BitVec 32 := 128#32
  let v273 : BitVec 32 := Scalar.muli v16 c128_i32_180
  let v274 : BitVec 32 := Scalar.addi v273 c0_i32_181
  let c0_i32_188 : BitVec 32 := 0#32
  ![v274.toNat, 0]
def k0_off6 (d0 : Dev nD) (c0_i32_221 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c128_i32_220 : BitVec 32 := 128#32
  let v321 : BitVec 32 := Scalar.muli v19 c128_i32_220
  let v322 : BitVec 32 := Scalar.addi v321 c0_i32_221
  let c0_i32_228 : BitVec 32 := 0#32
  ![v322.toNat, 0]
def k0_off7 (d0 : Dev nD) : Fin 3 → Nat :=
  let c0 : Index := 0#32
  let c0_269 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_29 : BitVec 32 := 512#32
  let v45 : BitVec 32 := Scalar.muli v2 c512_i32_29
  let v380 : Index := Scalar.indexCast v45
  ![0, 0, v380.toNat]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The mesh, the thirteen transfers and the rows they cover

Eight devices stand on a 2 × 2 × 2 mesh, device `c` at `(c / 4, c / 2 % 2, c % 2)`. Every device starts
thirteen copies: four pieces of one quarter and one whole quarter to its neighbour along the first axis,
and the four received pieces on to its neighbours along the second and the third. This module fixes, for
each of the thirteen, the neighbour it goes to and the rows it covers, and shows that the thirteen regions
landing on a device are disjoint and fill its receive buffer.
-/
module

public import proofs.«01_k».proof.Proof.Gen.KernelIdeal

@[expose] public section

noncomputable section

namespace Cert.KRun

open Cert.KernelIdeal Cert.KernelIdeal.Gen
open Idealize.ShloMosaic

/-! ## Neighbours -/

/-- The logical number of the device across axis `a`. -/
def nbVal : Fin 3 → ℕ → ℕ
  | 0, c => (2 * ((c / 2) % 2) + c % 2 + 4) - 4 * (c / 4)
  | 1, c => (4 * (c / 4) + c % 2 + 2) - 2 * ((c / 2) % 2)
  | 2, c => (4 * (c / 4) + 2 * ((c / 2) % 2) + 1) - c % 2

/-- A neighbour's number is that of a device. -/
theorem nbVal_lt : ∀ (a : Fin 3) (c : Dev nD), nbVal a c.val < nD := by decide

/-- The device across axis `a`: only that coordinate is flipped. -/
def nb (a : Fin 3) (c : Dev nD) : Dev nD := ⟨nbVal a c.val, nbVal_lt a c⟩

/-- Crossing an axis twice comes back. -/
theorem nb_nb : ∀ (a : Fin 3) (c : Dev nD), nb a (nb a c) = c := by decide

/-- Crossing axis `a`, as a permutation of the devices. -/
def nbE (a : Fin 3) : Dev nD ≃ Dev nD := ⟨nb a, nb a, nb_nb a, nb_nb a⟩

/-- Different axes lead to different devices. -/
theorem nb_inj : ∀ (a b : Fin 3) (c : Dev nD), nb a c = nb b c → a = b := by decide

/-- No device is its own neighbour. -/
theorem nb_ne : ∀ (a : Fin 3) (c : Dev nD), nb a c ≠ c := by decide

/-! ## The transfers -/

/-- The axis transfer `i` crosses. -/
def dir (i : Fin 13) : Fin 3 := if i.val < 5 then 0 else if i.val < 9 then 1 else 2

/-- The device transfer `i` of device `c` goes to. -/
def tgt (i : Fin 13) (c : Dev nD) : Dev nD := nb (dir i) c

/-- Where a transfer goes, the same transfer comes back from. -/
theorem tgt_tgt (i : Fin 13) (c : Dev nD) : tgt i (tgt i c) = c := nb_nb (dir i) c

/-- Sender and receiver of transfer `i`, as a permutation of the devices. -/
def tgtE (i : Fin 13) : Dev nD ≃ Dev nD := nbE (dir i)

/-- The first row transfer `i` of device `c` covers. -/
def base (i : Fin 13) (c : Dev nD) : ℕ :=
  if i.val < 4 then 128 * (c.val % 4) + 32 * i.val
  else if i.val = 4 then 128 * (3 - c.val % 4)
  else if i.val < 9 then 128 * (c.val % 4) + 32 * (i.val - 5)
  else 128 * (c.val % 4) + 32 * (i.val - 9)

/-- How many rows transfer `i` covers. -/
def len (i : Fin 13) : ℕ := if i.val = 4 then 128 else 32

/-- Piece `p` from the input, across the first axis. -/
def t0 (p : Fin 4) : Fin 13 := ⟨p.val, by omega⟩
/-- Piece `p` passed on across the second axis. -/
def t1 (p : Fin 4) : Fin 13 := ⟨5 + p.val, by omega⟩
/-- Piece `p` passed on across the third axis. -/
def t2 (p : Fin 4) : Fin 13 := ⟨9 + p.val, by omega⟩

/-- The pieces of the first kind go across the first axis. -/
theorem dir_t0 : ∀ p, dir (t0 p) = 0 := by decide
/-- The pieces of the second kind go across the second axis. -/
theorem dir_t1 : ∀ p, dir (t1 p) = 1 := by decide
/-- The pieces of the third kind go across the third axis. -/
theorem dir_t2 : ∀ p, dir (t2 p) = 2 := by decide
/-- The quarter sent whole goes across the first axis. -/
theorem dir_four : dir 4 = 0 := by decide

/-! ## Rows of the receive buffer -/

/-- The entries of the rows from `b` on, `n` of them. -/
def rows (b n : ℕ) : Finset S512x512.Idx := Finset.univ.filter fun j => b ≤ (j 0).val ∧ (j 0).val < b + n

/-- An entry is in these rows when its row number is. -/
theorem mem_rows {b n : ℕ} {j : S512x512.Idx} : j ∈ rows b n ↔ b ≤ (j 0).val ∧ (j 0).val < b + n := by
  simp [rows]

/-- The entries transfer `i` of device `c` covers. -/
def pset (i : Fin 13) (c : Dev nD) : Finset S512x512.Idx := rows (base i c) (len i)

/-- The entries of device `e`'s receive buffer that transfer `i` fills: those its sender covers. -/
def lset (i : Fin 13) (e : Dev nD) : Finset S512x512.Idx := pset i (tgt i e)

/-- What a transfer fills at its target is what it covers. -/
theorem lset_tgt (i : Fin 13) (c : Dev nD) : lset i (tgt i c) = pset i c := by
  unfold lset; rw [tgt_tgt]

/-- Of two regions that land on one device, one ends before the other begins. -/
theorem rows_apart : ∀ (e : Dev nD) (i j : Fin 13), i ≠ j →
    base i (tgt i e) + len i ≤ base j (tgt j e) ∨ base j (tgt j e) + len j ≤ base i (tgt i e) := by
  decide +kernel

/-- Regions that land on one device do not meet. -/
theorem lset_disjoint (e : Dev nD) (i j : Fin 13) (h : i ≠ j) : Disjoint (lset i e) (lset j e) := by
  rw [Finset.disjoint_left]
  intro x hx hy
  unfold lset pset at hx hy
  rw [mem_rows] at hx hy
  rcases rows_apart e i j h with h | h <;> omega

/-- Each 32 rows of the receive buffer lie in one region that lands there. -/
theorem blocks_covered : ∀ (e : Dev nD) (k : Fin 16), ∃ i : Fin 13,
    base i (tgt i e) ≤ 32 * k.val ∧ 32 * k.val + 32 ≤ base i (tgt i e) + len i := by
  decide +kernel

/-- Every entry of the receive buffer lies in one of the regions that land there. -/
theorem lset_cover (e : Dev nD) : Finset.univ.biUnion (fun i : Fin 13 => lset i e) = Finset.univ := by
  ext x
  simp only [Finset.mem_biUnion, Finset.mem_univ, true_and, iff_true]
  have hx : (x 0).val < 512 := (x 0).isLt
  obtain ⟨i, h1, h2⟩ := blocks_covered e ⟨(x 0).val / 32, by omega⟩
  refine ⟨i, ?_⟩
  unfold lset pset
  rw [mem_rows]
  dsimp only at h1 h2
  omega

/-- The rows of a transfer are rows of the buffer. -/
theorem base_in : ∀ (i : Fin 13) (c : Dev nD), base i c + len i ≤ 512 := by decide +kernel

/-- What is passed on is what the piece from across the first axis filled. -/
theorem pset_t1 (p : Fin 4) (c : Dev nD) : pset (t1 p) c = lset (t0 p) c := by
  have h : ∀ (p : Fin 4) (c : Dev nD), base (t1 p) c = base (t0 p) (tgt (t0 p) c) ∧ len (t1 p) = len (t0 p) := by
    decide +kernel
  unfold lset pset
  rw [(h p c).1, (h p c).2]

/-- So it is with what is passed on across the third axis. -/
theorem pset_t2 (p : Fin 4) (c : Dev nD) : pset (t2 p) c = lset (t0 p) c := by
  have h : ∀ (p : Fin 4) (c : Dev nD), base (t2 p) c = base (t0 p) (tgt (t0 p) c) ∧ len (t2 p) = len (t0 p) := by
    decide +kernel
  unfold lset pset
  rw [(h p c).1, (h p c).2]

/-! ## Rows of the input -/

/-- The entries of device `c`'s input that transfer `i` reads: the rows it covers, in the half of the columns
    the other half of the mesh holds. -/
def xset (i : Fin 13) (c : Dev nD) : Finset S1x512x1024.Idx :=
  Finset.univ.filter fun j => (base i c ≤ (j 1).val ∧ (j 1).val < base i c + len i) ∧
    512 - 512 * (c.val / 4) ≤ (j 2).val ∧ (j 2).val < 512 - 512 * (c.val / 4) + 512

/-- An entry is in a piece of the input when its row and its column are. -/
theorem mem_xset {i : Fin 13} {c : Dev nD} {j : S1x512x1024.Idx} : j ∈ xset i c ↔
    (base i c ≤ (j 1).val ∧ (j 1).val < base i c + len i) ∧
    512 - 512 * (c.val / 4) ≤ (j 2).val ∧ (j 2).val < 512 - 512 * (c.val / 4) + 512 := by
  simp [xset]

/-- Of two pieces of the input, one ends before the other begins. -/
theorem xrows_apart : ∀ (c : Dev nD) (i j : Fin 13), i.val < 5 → j.val < 5 → i ≠ j →
    base i c + len i ≤ base j c ∨ base j c + len j ≤ base i c := by
  decide +kernel

/-- The five pieces of the input that are sent do not meet. -/
theorem xset_disjoint (c : Dev nD) (i j : Fin 13) (hi : i.val < 5) (hj : j.val < 5) (h : i ≠ j) :
    Disjoint (xset i c) (xset j c) := by
  rw [Finset.disjoint_left]
  intro x hx hy
  rw [mem_xset] at hx hy
  rcases xrows_apart c i j hi hj h with h | h <;> omega

/-! ## Who sent a row -/

/-- The device whose input the rows of quarter `q` in device `c`'s receive buffer come from, in the end: the
    device across the first axis for the quarter that comes whole, the device opposite along the first axis with
    number `q` in its half for the other three. -/
def ownerVal (c q : ℕ) : ℕ := if q = 3 - c % 4 then nbVal 0 c else 4 * (1 - c / 4) + q % 4

/-- An owner's number is that of a device. -/
theorem ownerVal_lt : ∀ (c : Dev nD) (q : Fin 4), ownerVal c.val q.val < nD := by decide

/-- The owner, as a device. -/
def owner (c : Dev nD) (q : Fin 4) : Dev nD := ⟨ownerVal c.val q.val, ownerVal_lt c q⟩

/-- The owner is in the other half. -/
theorem owner_half : ∀ (c : Dev nD) (q : Fin 4), (owner c q).val / 4 = 1 - c.val / 4 := by decide

/-- Transfers from the input deliver the sender's own rows. -/
theorem owner_sent : ∀ (c : Dev nD) (q : Fin 4) (i : Fin 13), i.val < 5 →
    base i c / 128 = q.val → owner (nb 0 c) q = c := by decide +kernel

/-- A piece passed on has the same owner on both devices. -/
theorem owner_passed : ∀ (c : Dev nD) (q : Fin 4) (i : Fin 13), 5 ≤ i.val →
    base i c / 128 = q.val → owner (tgt i c) q = owner c q := by decide +kernel

/-- The rows of a transfer lie in one quarter. -/
theorem base_quarter : ∀ (i : Fin 13) (c : Dev nD), (base i c + len i - 1) / 128 = base i c / 128 := by decide +kernel

end Cert.KRun

end
-- ==== Proof.Pieces.lean ====
/-
# The pieces of the buffers the copies name, and what they carry

A copy of the kernel goes between unit-stride slices: of the receive buffer, or of the staged input with its
leading unit axis dropped. This module computes the entries such a slice covers and what a copy leaves on them,
and states what the receive buffer holds in the end.
-/
module

public import proofs.«01_k».proof.Proof.Mesh
public import Idealize.ShloMosaic.Lib.ViewIndex

@[expose] public section

noncomputable section

namespace Cert.KRun

open Cert.KernelIdeal Cert.KernelIdeal.Gen
open Idealize.ShloMosaic

/-- The staged input. -/
abbrev xM : Memref sig .tc .vmem S1x512x1024 .f32 := Memref.whole cc0_stg0_0
/-- The staged result. -/
abbrev oM : Memref sig .tc .vmem S512x512 .f32 := Memref.whole cc0_stg1_0
/-- The receive buffer. -/
abbrev rM : Memref sig .tc .vmem S512x512 .f32 := Memref.whole cc0_scratch0

/-- A slice of the receive buffer. -/
abbrev rp (off : Fin 2 → ℕ) (size : Fin 2 → ℕ) (inb : ∀ a, off a + size a ≤ S512x512.size a) :
    Memref sig .tc .vmem ⟨2, size⟩ .f32 :=
  rM.slice (Rect.unit (s := S512x512) off size inb) (fun _ => rfl)

/-- A slice of the input, its leading unit axis dropped. -/
abbrev xp (off : Fin 3 → ℕ) (size : Fin 3 → ℕ) (inb : ∀ a, off a + size a ≤ S1x512x1024.size a)
    (size' : Fin 2 → ℕ) (sq : (⟨3, size⟩ : Shape).Squeezes ⟨2, size'⟩) :
    Memref sig .tc .vmem ⟨2, size'⟩ .f32 :=
  (xM.slice (Rect.unit (s := S1x512x1024) off size inb) (fun _ => rfl)).squeeze ⟨2, size'⟩ sq

/-- The entries a full-width slice of the receive buffer covers. -/
theorem rp_set {off size : Fin 2 → ℕ} {inb} {b n : ℕ} (ho : off = ![b, 0]) (hs : size = ![n, 512]) :
    (rp off size inb).view.set = rows b n := by
  subst ho hs
  rw [View.set_slice_whole]
  ext j
  rw [Rect.mem_set_unit, mem_rows]
  constructor
  · intro h; exact h 0
  · intro h a
    fin_cases a
    · exact h
    · exact ⟨Nat.zero_le _, by have h1 : (j 1).val < 512 := (j 1).isLt; show (j 1).val < 0 + 512; omega⟩

/-- The entries a slice of the input covers. -/
theorem xp_set {off size : Fin 3 → ℕ} {inb} {size' sq} {c : Dev nD} {i : Fin 13}
    (ho : off = ![0, base i c, 512 - 512 * (c.val / 4)]) (hs : size = ![1, len i, 512]) :
    (xp off size inb size' sq).view.set = xset i c := by
  subst ho hs
  rw [View.set_reshape, View.set_slice_whole]
  ext j
  rw [Rect.mem_set_unit, mem_xset]
  constructor
  · intro h; exact ⟨h 1, h 2⟩
  · intro h a
    fin_cases a
    · exact ⟨Nat.zero_le _, by have h1 : (j 0).val < 1 := (j 0).isLt; show (j 0).val < 0 + 1; omega⟩
    · exact h.1
    · exact h.2

/-- The entry of a device's input that lies at row `j 0` and, in the half of the columns device `e` keeps, at
    column `j 1`. -/
def xidx (e : Dev nD) (j : S512x512.Idx) : S1x512x1024.Idx := fun a => match a with
  | ⟨0, _⟩ => ⟨0, Nat.one_pos⟩
  | ⟨1, _⟩ => ⟨(j 0).val, (j 0).isLt⟩
  | ⟨2, _⟩ => ⟨512 * (e.val / 4) + (j 1).val, by
      have h1 : (j 1).val < 512 := (j 1).isLt
      have h2 : e.val < 8 := e.isLt
      show _ < 1024
      omega⟩

/-- The quarter a row lies in. -/
def quarter (j : S512x512.Idx) : Fin 4 := ⟨(j 0).val / 128, by
  have h : (j 0).val < 512 := (j 0).isLt
  omega⟩

section

variable {F : FTy → Type} [FloatOps F]

/-- What device `e`'s receive buffer holds once all its pieces have landed: at each row the row of the owner's
    input, in the half of the columns device `e` keeps. -/
def landed (X : Dev nD → S1x512x1024.Idx → Elt F .f32) (e : Dev nD) : S512x512.Idx → Elt F .f32 :=
  fun j => X (owner e (quarter j)) (xidx e j)

/-- A copy between two slices of the receive buffer at the same place leaves the source's entries. -/
theorem write_rr {off size : Fin 2 → ℕ} {inb inb'} (f g : S512x512.Idx → Elt F .f32)
    {j : S512x512.Idx} (hj : j ∈ (rp off size inb).view.set) :
    (rp off size inb).view.write (Elt F) f ((rp off size inb').view.read (Elt F) g) Finset.univ j = g j := by
  obtain ⟨k, -, rfl⟩ := Finset.mem_map.mp hj
  rw [View.write_emb_of_mem _ _ (Finset.mem_univ k)]
  rfl

/-- A copy from a slice of the input leaves, at a row of the receive buffer, the row's entries of the input in
    the half of the columns the receiver keeps. -/
theorem write_xr {off size : Fin 2 → ℕ} {inb} {xoff : Fin 3 → ℕ} {xinb sq}
    {b n : ℕ} {c e : Dev nD} (ho : off = ![b, 0]) (hs : size = ![n, 512])
    (hxo : xoff = ![0, b, 512 - 512 * (c.val / 4)]) (he : e.val / 4 = 1 - c.val / 4)
    (f : S512x512.Idx → Elt F .f32) (g : S1x512x1024.Idx → Elt F .f32)
    {j : S512x512.Idx} (hj : j ∈ (rp off size inb).view.set) :
    (rp off size inb).view.write (Elt F) f
      ((xp xoff (Matrix.vecCons 1 size) xinb size sq).view.read (Elt F) g) Finset.univ j = g (xidx e j) := by
  obtain ⟨k, -, rfl⟩ := Finset.mem_map.mp hj
  rw [View.write_emb_of_mem _ _ (Finset.mem_univ k), View.read_apply, View.emb_reshape]
  show g _ = g _
  congr 1
  subst ho hs hxo
  have hc : c.val < 8 := c.isLt
  show (Rect.unit (s := S1x512x1024) _ _ xinb).emb (Shape.reshapeEquiv sq.numel_eq k) = _
  rw [Shape.reshapeEquiv_cons_one]
  apply Shape.idx3_ext
  · rfl
  · show b + 1 * (k 0).val = b + 1 * (k 0).val
    rfl
  · show 512 - 512 * (c.val / 4) + 1 * (k 1).val = 512 * (e.val / 4) + (0 + 1 * (k 1).val)
    omega

/-- A piece from the input leaves what the receiver's buffer holds in the end. -/
theorem landed_sent (X : Dev nD → S1x512x1024.Idx → Elt F .f32) {i : Fin 13} (hi : i.val < 5) (c : Dev nD)
    {j : S512x512.Idx} (hj : j ∈ pset i c) : X c (xidx (tgt i c) j) = landed X (tgt i c) j := by
  have hd : tgt i c = nb 0 c := by unfold tgt dir; rw [if_pos hi]
  have hq : base i c / 128 = (quarter j).val := by
    have h1 := base_quarter i c
    unfold pset at hj; rw [mem_rows] at hj
    show base i c / 128 = (j 0).val / 128
    omega
  unfold landed
  rw [hd, owner_sent c (quarter j) i hi hq]

/-- A piece passed on is what both buffers hold in the end. -/
theorem landed_passed (X : Dev nD → S1x512x1024.Idx → Elt F .f32) {i : Fin 13} (hi : 5 ≤ i.val) (c : Dev nD)
    {j : S512x512.Idx} (hj : j ∈ pset i c) : landed X c j = landed X (tgt i c) j := by
  have hq : base i c / 128 = (quarter j).val := by
    have h1 := base_quarter i c
    unfold pset at hj; rw [mem_rows] at hj
    show base i c / 128 = (j 0).val / 128
    omega
  have hh : ∀ (i : Fin 13) (c : Dev nD), 5 ≤ i.val → (tgt i c).val / 4 = c.val / 4 := by decide +kernel
  unfold landed
  rw [owner_passed c (quarter j) i hi hq]
  congr 1
  funext a
  match a with
  | ⟨0, _⟩ => rfl
  | ⟨1, _⟩ => rfl
  | ⟨2, _⟩ => exact Fin.ext (by show 512 * (c.val / 4) + _ = 512 * ((tgt i c).val / 4) + _; rw [hh i c hi])

end

end Cert.KRun

end
-- ==== Proof.Sched.lean ====
/-
# The protocol: cells, what each pays and promises, what each device owes

Every device has one barrier cell, thirteen send cells and thirteen receive cells. Each runs one round. The
barrier cell of a device takes one unit from each neighbour, and with the unit from across axis `a` the
regions of that neighbour's receive buffer the device will write across axis `a`. A receive cell gives the region
a transfer filled, a send cell gives the transfer's source back.
-/
module

public import proofs.«01_k».proof.Proof.Pieces
public import proofs.«01_k».proof.Proof.Gen.KernelIdeal.Launch
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of this kernel's cells: duties are numbered by the axis they come across. -/
abbrev UB : Type := URounds (GSem nD τ sig) (Fin 3)
/-- The launch's own rounds beside those of this kernel. -/
abbrev UU : Type := UR sig nD τ × UB

local notation "𝕄" => MT nD τ sig Unit (Elt F) ℕ UU ℕ

/-- Where the launch's rounds live. -/
abbrev EP : Emb (UR sig nD τ) (MT nD τ sig Unit (Elt F) ℕ UU ℕ) := embL
/-- Where this kernel's rounds live. -/
abbrev ER : Emb UB (MT nD τ sig Unit (Elt F) ℕ UU ℕ) := embR

/-- What the devices' staged inputs hold. -/
abbrev Inputs (F : FTy → Type) : Type := Dev nD → S1x512x1024.Idx → Elt F .f32

/-! ## Cells -/

/-- The barrier semaphore. -/
abbrev barS : Sem sig := (SemArray.scalar (sig.barrier 0 rfl) : Sems sig S_).sem
/-- The semaphore transfer `i` is counted on at its source. -/
def sendS (i : Fin 13) : DmaSem sig := ⟨2 + i.val, show 2 + i.val < 28 by omega⟩
/-- The semaphore transfer `i` is counted on where it lands. -/
def recvS (i : Fin 13) : DmaSem sig := ⟨15 + i.val, show 15 + i.val < 28 by omega⟩

/-- The cells of a device: the barrier, a send cell and a receive cell for each transfer. -/
abbrev CI : Type := Unit ⊕ (Fin 13 ⊕ Fin 13)

/-- A cell's semaphore. -/
def csem : CI → SemLoc sig
  | .inl _ => .reg barS
  | .inr (.inl i) => .dma (sendS i)
  | .inr (.inr i) => .dma (recvS i)

/-- Which cell a semaphore is, if one of these. -/
def kindOf : SemLoc sig → Option CI
  | .reg _ => some (.inl ())
  | .dma q => if h : 2 ≤ q.val ∧ q.val < 15 then some (.inr (.inl ⟨q.val - 2, by omega⟩))
      else if h' : 15 ≤ q.val then some (.inr (.inr ⟨q.val - 15, by
        have := q.isLt
        have h28 : q.val < 28 := this
        omega⟩))
      else none

/-- A cell's semaphore is that cell's. -/
theorem kindOf_csem (k : CI) : kindOf (csem k) = some k := by
  rcases k with ⟨⟩ | i | i
  · rfl
  · revert i; decide
  · revert i; decide

/-- Different cells have different semaphores. -/
theorem csem_inj : Function.Injective csem := fun a b h => by
  have := kindOf_csem a
  rw [h, kindOf_csem b] at this
  exact (Option.some.inj this).symm

/-- A cell of device `c`. -/
abbrev cellAt (c : Dev nD) (k : CI) : GSem nD τ sig := ((c : Thread nD τ), csem k)
/-- The barrier cell of device `c`. -/
abbrev barCell (c : Dev nD) : GSem nD τ sig := ((c : Thread nD τ), .reg barS)
/-- The cell device `c` waits on for transfer `i` to have left. -/
abbrev sendCell (i : Fin 13) (c : Dev nD) : GSem nD τ sig := ((c : Thread nD τ), .dma (sendS i))
/-- The cell device `c` waits on for transfer `i` to have landed. -/
abbrev recvCell (i : Fin 13) (c : Dev nD) : GSem nD τ sig := ((c : Thread nD τ), .dma (recvS i))

/-- A transfer's rows are not more than the buffer's. -/
theorem len_in (i : Fin 13) : ∀ a, (![0, 0] : Fin 2 → ℕ) a + (![len i, 512] : Fin 2 → ℕ) a ≤ S512x512.size a := by
  revert i; decide

/-- What transfer `i` counts on its two cells: what a copy of that many rows counts. -/
def N (i : Fin 13) : ℕ := (rp ![0, 0] ![len i, 512] (len_in i)).view.dmaCredit

/-- A transfer counts something. -/
theorem N_pos (i : Fin 13) : 0 < N i := by
  refine View.dmaCredit_pos _ ?_
  revert i; decide

/-! ## Buffers -/

/-- The receive buffer of device `c`. -/
abbrev rloc (c : Dev nD) : Loc nD τ sig := (c : Thread nD τ).loc cc0_scratch0
/-- The staged input of device `c`. -/
abbrev xloc (c : Dev nD) : Loc nD τ sig := (c : Thread nD τ).loc cc0_stg0_0
/-- The staged result of device `c`. -/
abbrev oloc (c : Dev nD) : Loc nD τ sig := (c : Thread nD τ).loc cc0_stg1_0

variable (X : Inputs F)

/-- What a receive region holds once its transfer has landed. -/
def recvPay (i : Fin 13) (e : Dev nD) : sProp 𝕄 := iprop(rloc e ↦[lset i e]{fullShare} landed X e)

/-- The share of its source a transfer holds until it is done: of the input half, of a received piece one quarter
    for the transfer across the second axis and one for that across the third. -/
def sendPay (i : Fin 13) (c : Dev nD) : sProp 𝕄 :=
  if i.val < 5 then iprop(xloc c ↦[xset i c]{fullShare.right} X c)
  else if i.val < 9 then iprop(rloc c ↦[pset i c]{fullShare.right.left} landed X c)
  else iprop(rloc c ↦[pset i c]{fullShare.right.right} landed X c)

/-- The transfers across an axis. -/
def along (a : Fin 3) : Finset (Fin 13) := Finset.univ.filter fun i => dir i = a

/-- With its unit, the neighbour of `d` across axis `a` hands the regions `d` will write there. -/
def barPay (a : Fin 3) (d : Dev nD) : sProp 𝕄 :=
  bigSep (along a) fun i => iprop(∃ f, rloc (tgt i d) ↦[pset i d]{fullShare} f)

omit [FloatOps F] in
instance recvPay_storable (i : Fin 13) (e : Dev nD) : BI.Storable (upEmb : UEmb _ 𝕄) (recvPay (F := F) X i e) := by
  unfold recvPay; infer_instance
omit [FloatOps F] in
instance sendPay_storable (i : Fin 13) (c : Dev nD) : BI.Storable (upEmb : UEmb _ 𝕄) (sendPay (F := F) X i c) := by
  unfold sendPay; (repeat' split) <;> infer_instance
omit [FloatOps F] in
instance barPay_storable (a : Fin 3) (d : Dev nD) : BI.Storable (upEmb : UEmb _ 𝕄) (barPay (F := F) a d) := by
  unfold barPay; infer_instance

/-! ## The schedule -/

/-- One round. A barrier cell has a duty of one unit for each axis; a send or receive cell one duty of its transfer's
    count. -/
def sched : Rounds.Schedule (GSem nD τ sig) (Fin 3) 𝕄 where
  duties g r := if r = 0 ∧ g.1.2 = .tc then
      (match kindOf g.2 with | some (.inl _) => Finset.univ | some (.inr _) => {0} | none => ∅) else ∅
  unitless _ := False
  amount g _ _ := match kindOf g.2 with
    | some (.inr (.inl i)) => N i | some (.inr (.inr i)) => N i | _ => 1
  payload g _ a := match kindOf g.2 with
    | some (.inl _) => barPay a g.1.1
    | some (.inr (.inl i)) => sendPay X i g.1.1
    | some (.inr (.inr i)) => recvPay X i g.1.1
    | none => iprop(emp)
  amount_pos g _ _ _ := by
    split
    · exact N_pos _
    · exact N_pos _
    · exact Nat.one_pos

omit [FloatOps F] in
instance sched_storable (g : GSem nD τ sig) (r : ℕ) (a : Fin 3) :
    BI.Storable (upEmb : UEmb _ 𝕄) ((sched (F := F) X).payload g r a) := by
  show BI.Storable upEmb (match kindOf g.2 with
    | some (.inl _) => barPay a g.1.1
    | some (.inr (.inl i)) => sendPay X i g.1.1
    | some (.inr (.inr i)) => recvPay X i g.1.1
    | none => iprop(emp))
  split <;> infer_instance

/-- The barrier semaphore is that of the barrier cell. -/
theorem kind_bar : kindOf (.reg barS) = some (.inl ()) := kindOf_csem (.inl ())
/-- A send semaphore is that of its send cell. -/
theorem kind_send (i : Fin 13) : kindOf (.dma (sendS i)) = some (.inr (.inl i)) := kindOf_csem (.inr (.inl i))
/-- A receive semaphore is that of its receive cell. -/
theorem kind_recv (i : Fin 13) : kindOf (.dma (recvS i)) = some (.inr (.inr i)) := kindOf_csem (.inr (.inr i))

section
variable (c : Dev nD) (i : Fin 13) (a : Fin 3)

omit [FloatOps F] in
/-- A barrier cell has a duty for each axis. -/
theorem duties_bar : (sched X).duties (barCell c) 0 = Finset.univ := by
  dsimp only [sched]; rw [if_pos ⟨rfl, rfl⟩, kind_bar]
omit [FloatOps F] in
/-- A send cell has one duty. -/
theorem duties_send : (sched X).duties (sendCell i c) 0 = {0} := by
  dsimp only [sched]; rw [if_pos ⟨rfl, rfl⟩, kind_send]
omit [FloatOps F] in
/-- A receive cell has one duty. -/
theorem duties_recv : (sched X).duties (recvCell i c) 0 = {0} := by
  dsimp only [sched]; rw [if_pos ⟨rfl, rfl⟩, kind_recv]
omit [FloatOps F] in
/-- After the first round no cell has a duty. -/
theorem duties_later (g : GSem nD τ sig) : ∀ r, 1 ≤ r → (sched X).duties g r = ∅ := fun r hr => by
  dsimp only [sched]; rw [if_neg fun h => by omega]

omit [FloatOps F] in
/-- A duty at a barrier cell is one unit. -/
theorem amount_bar : (sched X).amount (barCell c) 0 a = 1 := by dsimp only [sched]; rw [kind_bar]
omit [FloatOps F] in
/-- The duty at a send cell is its transfer's count. -/
theorem amount_send : (sched X).amount (sendCell i c) 0 a = N i := by dsimp only [sched]; rw [kind_send]
omit [FloatOps F] in
/-- The duty at a receive cell is its transfer's count. -/
theorem amount_recv : (sched X).amount (recvCell i c) 0 a = N i := by dsimp only [sched]; rw [kind_recv]

omit [FloatOps F] in
/-- A barrier cell expects three units. -/
theorem expect_bar : (sched X).expect (barCell c) 0 = 3 := by
  unfold Schedule.expect Schedule.amountOf
  rw [duties_bar, Finset.sum_congr rfl fun d _ => amount_bar X c d]; rfl
omit [FloatOps F] in
/-- A send cell expects its transfer's count. -/
theorem expect_send : (sched X).expect (sendCell i c) 0 = N i := by
  unfold Schedule.expect Schedule.amountOf; rw [duties_send, Finset.sum_singleton, amount_send]
omit [FloatOps F] in
/-- A receive cell expects its transfer's count. -/
theorem expect_recv : (sched X).expect (recvCell i c) 0 = N i := by
  unfold Schedule.expect Schedule.amountOf; rw [duties_recv, Finset.sum_singleton, amount_recv]

omit [FloatOps F] in
/-- With a unit at a barrier cell come the regions across its axis. -/
theorem payload_bar : (sched X).payload (barCell c) 0 a = barPay a c := by dsimp only [sched]; rw [kind_bar]
omit [FloatOps F] in
/-- With a send cell's count the share of the source comes back. -/
theorem payload_send : (sched X).payload (sendCell i c) 0 a = sendPay X i c := by dsimp only [sched]; rw [kind_send]
omit [FloatOps F] in
/-- With a receive cell's count comes the region filled. -/
theorem payload_recv : (sched X).payload (recvCell i c) 0 a = recvPay X i c := by dsimp only [sched]; rw [kind_recv]

omit [FloatOps F] in
/-- A whole barrier round: what each neighbour hands. -/
theorem rest_bar : bigSep ((sched X).duties (barCell c) 0 \ ∅) (fun d => (sched X).payload (barCell c) 0 d)
    = bigSep Finset.univ fun a => barPay (F := F) a c := by
  rw [Finset.sdiff_empty, duties_bar]
  exact bigSep_congr fun a _ => payload_bar X c a
omit [FloatOps F] in
/-- A send cell's whole round: the share of its source. -/
theorem rest_send : bigSep ((sched X).duties (sendCell i c) 0 \ ∅) (fun d => (sched X).payload (sendCell i c) 0 d)
    = sendPay X i c := by
  rw [Finset.sdiff_empty, duties_send, bigSep_singleton, payload_send]
omit [FloatOps F] in
/-- A receive cell's whole round: the region filled. -/
theorem rest_recv : bigSep ((sched X).duties (recvCell i c) 0 \ ∅) (fun d => (sched X).payload (recvCell i c) 0 d)
    = recvPay X i c := by
  rw [Finset.sdiff_empty, duties_recv, bigSep_singleton, payload_recv]

end

/-! ## What a device owes, and the order of waiting -/

/-- A unit to the barrier cell of the neighbour across each axis in `A`, and its count to the receive cell of each
    transfer in `S`. -/
def O (c : Dev nD) (A : Finset (Fin 3)) (S : Finset (Fin 13)) : CellTallies nD τ sig Unit :=
  (∑ i ∈ S, tallyAt (recvCell i (tgt i c)) () (N i)) + ∑ a ∈ A, tallyAt (barCell (nb a c)) () 1

/-- What device `c` owes at launch: everything. -/
def O₀ (c : Dev nD) : CellTallies nD τ sig Unit := O c Finset.univ Finset.univ

/-- To owe at no axis and for no transfer is to owe nothing. -/
theorem O_none (c : Dev nD) : O c ∅ ∅ = 0 := by
  unfold O; rw [Finset.sum_empty, Finset.sum_empty, add_zero]

/-- What is owed at one axis comes apart from the rest. -/
theorem O_bar (c : Dev nD) {a : Fin 3} {A : Finset (Fin 3)} (S : Finset (Fin 13)) (h : a ∈ A) :
    O c A S = O c (A.erase a) S + tallyAt (barCell (nb a c)) () 1 := by
  unfold O
  rw [add_assoc, Finset.sum_erase_add A (fun a => (tallyAt (barCell (nb a c)) () 1 : CellTallies nD τ sig Unit)) h]

/-- What is owed for one transfer comes apart from the rest. -/
theorem O_recv (c : Dev nD) {i : Fin 13} {S : Finset (Fin 13)} (h : i ∈ S) :
    O c ∅ S = O c ∅ (S.erase i) + tallyAt (recvCell i (tgt i c)) () (N i) := by
  unfold O
  rw [Finset.sum_empty, add_zero, add_zero,
    Finset.sum_erase_add S (fun i => (tallyAt (recvCell i (tgt i c)) () (N i) : CellTallies nD τ sig Unit)) h]

/-- A cell owed to is a neighbour's barrier cell or a receive cell where a transfer goes. -/
theorem O_pos {c : Dev nD} {A : Finset (Fin 3)} {S : Finset (Fin 13)} {g : GSem nD τ sig} {u : Unit}
    (h : 0 < O c A S g u) : (∃ i ∈ S, g = recvCell i (tgt i c)) ∨ ∃ a ∈ A, g = barCell (nb a c) := by
  unfold O at h
  rw [Pi.add_apply, Finsupp.add_apply, Finset.sum_apply, Finset.sum_apply, Finsupp.finset_sum_apply,
    Finsupp.finset_sum_apply] at h
  rcases Nat.add_pos_iff_pos_or_pos.mp h with h | h
  · obtain ⟨i, hi, hne⟩ := Finset.exists_ne_zero_of_sum_ne_zero h.ne'
    refine .inl ⟨i, hi, ?_⟩
    by_contra hg
    exact hne (by rw [tallyAt_apply, if_neg fun h' => hg h'.1])
  · obtain ⟨a, ha, hne⟩ := Finset.exists_ne_zero_of_sum_ne_zero h.ne'
    refine .inr ⟨a, ha, ?_⟩
    by_contra hg
    exact hne (by rw [tallyAt_apply, if_neg fun h' => hg h'.1])

/-- The order in which a device waits: barrier, pieces from across the first axis, pieces passed on. -/
def rlev (i : Fin 13) : ℕ := if i.val < 5 then 2 else 3

/-- A semaphore's place in that order: staging and send semaphores come first. -/
def lev : SemLoc sig → ℕ := fun s => match kindOf s with
  | some (.inl _) => 1
  | some (.inr (.inr i)) => rlev i
  | _ => 0

/-- Each cell of a main core has a level. -/
def L (g : GSem nD τ sig) : Finset Unit := if g.1.2 = .tc then {()} else ∅
/-- That level. -/
def lv (g : GSem nD τ sig) (_ : Unit) : ℕ := lev g.2

/-- Other cells have none. -/
theorem L_of_ne (g : GSem nD τ sig) (h : g.1.2 ≠ .tc) : L g = ∅ := if_neg h
/-- A main core's cell has one. -/
theorem L_tc (c : Dev nD) (sm : SemLoc sig) : L ((c : Thread nD τ), sm) = {()} := if_pos rfl

/-- The barrier's place. -/
theorem lev_bar : lev (.reg barS) = 1 := by unfold lev; rw [kind_bar]
/-- A send semaphore's place. -/
theorem lev_send (i : Fin 13) : lev (.dma (sendS i)) = 0 := by unfold lev; rw [kind_send]
/-- A receive semaphore's place. -/
theorem lev_recv (i : Fin 13) : lev (.dma (recvS i)) = rlev i := by unfold lev; rw [kind_recv]

omit [FloatOps F] in
/-- A device may wait on a semaphore that comes, in that order, before all it owes to. -/
theorem mayWait (c : Dev nD) (sm : SemLoc sig) (A : Finset (Fin 3)) (S : Finset (Fin 13))
    (hA : A.Nonempty → lev sm < 1) (hS : ∀ i ∈ S, lev sm < rlev i) :
    (levAts L lv : sProp 𝕄) ⊢ MayWait (c : Thread nD τ) sm () (O c A S) :=
  MayOwe.of_cut (L := L) (lev := lv) (lev sm)
    (fun p hp => by rw [Finset.mem_singleton.mp hp, L_tc]; exact Finset.mem_singleton_self _)
    (fun g u hg => by
      rcases O_pos hg with ⟨i, -, rfl⟩ | ⟨a, -, rfl⟩ <;> exact Finset.mem_singleton_self _)
    (fun p hp => by rw [Finset.mem_singleton.mp hp]; exact le_rfl)
    (fun g u hg => by
      rcases O_pos hg with ⟨i, hi, rfl⟩ | ⟨a, ha, rfl⟩
      · show lev sm < lev (.dma (recvS i)); rw [lev_recv]; exact hS i hi
      · show lev sm < lev (.reg barS); rw [lev_bar]; exact hA ⟨a, ha⟩)

end Cert.KRun

end
-- ==== Proof.Rules.lean ====
/-
# One rule for each kind of step

The kernel takes four kinds of remote step: a signal to a neighbour's barrier, the start of a transfer, a wait where
one lands and a wait where one was sent. Each is proved once here, for any of its transfers, from the library's
rule for its operation and the schedule.
-/
module

public import proofs.«01_k».proof.Proof.Sched

@[expose] public section

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body calls nothing that recurs, so no variant is needed. -/
abbrev 𝒱₀ : Variants := Variants.none

variable (X : Inputs F) (K : Dev nD × CI → ℕ)

/-! ## What a device holds for a transfer -/

/-- Every cell's invariant, and that every cell has reached its round. -/
def records : sProp 𝕄 :=
  iprop((bigSep Finset.univ fun ck : Dev nD × CI => cellInv ER (sched X) (K ck) (cellAt ck.1 ck.2))
    ∗ bigSep Finset.univ fun ck : Dev nD × CI => reached ER (cellAt ck.1 ck.2) 0)

omit [FloatOps F] in
instance records_persistent : BI.Persistent (records X K) := by unfold records; infer_instance

omit [FloatOps F] in
/-- The invariant of one cell, from everyone's. -/
theorem inv_at (c : Dev nD) (k : CI) : records X K ⊢ cellInv ER (sched X) (K (c, k)) (cellAt c k) :=
  sep_elim_left.trans (bigSep_elim (Finset.mem_univ ((c, k) : Dev nD × CI)))
omit [FloatOps F] in
/-- One cell has reached its round, as all have. -/
theorem reached_at (c : Dev nD) (k : CI) : records X K ⊢ reached ER (cellAt c k) 0 :=
  sep_elim_right.trans (bigSep_elim (Finset.mem_univ ((c, k) : Dev nD × CI)))

/-- Before transfer `i`: the position of its send cell and the tokens of both its duties. -/
def sendGh (i : Fin 13) (c : Dev nD) : sProp 𝕄 :=
  iprop(atPos ER (sendCell i c) 0 ∅ 0 ∗ dutyTok ER (sendCell i c) 0 0 ∗ dutyTok ER (recvCell i (tgt i c)) 0 0)

/-- Where transfer `i` goes: the region of the neighbour's receive buffer it writes. -/
def room (i : Fin 13) (c : Dev nD) : sProp 𝕄 := iprop(∃ f, rloc (tgt i c) ↦[pset i c]{fullShare} f)

/-- After transfer `i` has started: the position of its send cell and the credit to wait on it. -/
def sentGh (i : Fin 13) (c : Dev nD) : sProp 𝕄 :=
  iprop(atPos ER (sendCell i c) 0 ∅ 0 ∗ cred (tallyAt (sendCell i c) () (N i)))

/-- For a transfer that comes: the position of its receive cell and the credit to wait on it. -/
def recvGh (i : Fin 13) (c : Dev nD) : sProp 𝕄 :=
  iprop(atPos ER (recvCell i c) 0 ∅ 0 ∗ cred (tallyAt (recvCell i c) () (N i)))

/-- What device `c` still owes. -/
def ow (c : Dev nD) (A : Finset (Fin 3)) (S : Finset (Fin 13)) : sProp 𝕄 :=
  iprop(∃ W, owes (c : Thread nD τ) (O c A S) W)

/-- Device `c`'s program `p` runs to `Kt`. -/
abbrev runs {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

section
variable {α : Type} {k : PUnit → Prog (TpuEff nD τ sig (Elt F) Λ₀ .tc) α} (c : Dev nD)

/-! ## A signal -/

/-- A signal across axis `a` hands that neighbour the regions of the own receive buffer it will write. -/
theorem signal_rule {Kt : α → sProp 𝕄} (a : Fin 3) {n : Dev nD} (hn : n = nb a c) {A A' : Finset (Fin 3)} (S : Finset (Fin 13))
    (ha : a ∈ A) (hA : A.erase a = A') {u : ℤ} (hu : u = 1) :
    iprop(records X K ∗ dutyTok ER (barCell (nb a c)) 0 a ∗ barPay a (nb a c) ∗ ow c A S)
      ⊢ iprop((ow c A' S -∗ runs c (k ⟨⟩) Kt) -∗ runs c (.op (.semSignal (n : Thread nD τ) barS u) k) Kt) := by
  subst hn hA hu
  unfold ow
  iintro ⟨#HR, Ht, Hp, ⟨%W, HO⟩⟩ Hk
  iapply (Rounds.wp_signal 𝒱₀ ER (sched X) (c : Thread nD τ) none (dst := (nb a c : Thread nD τ)) (κ := K (nb a c, .inl ()))
      (d := a) (k' := 1) (by rw [duties_bar]; exact Finset.mem_univ _) (amount_bar X (nb a c) a) () (O c (A.erase a) S)
      (O_bar c S ha) (W := W)) $$ [Ht Hp HO]
  · isplitr; · iapply (inv_at X K (nb a c) (.inl ())); iexact HR
    isplitl [HO]; · iexact HO
    isplitl [Ht]; · iexact Ht
    isplitl [Hp]; · rw [payload_bar]; iexact Hp
    iapply (reached_at X K (nb a c) (.inl ())); iexact HR
  iintro HO
  iapply Hk; iexists W; iexact HO

/-- The wait for all three neighbours gives every region the device will write. -/
theorem barrier_rule {Kt : α → sProp 𝕄} (S : Finset (Fin 13)) {u : ℤ} (hu : u = 3) :
    iprop(records X K ∗ levAts L lv ∗ atPos ER (barCell c) 0 ∅ 0 ∗ cred (tallyAt (barCell c) () 3) ∗ ow c ∅ S)
      ⊢ iprop(((semVal (barCell c) 0 ∗ (bigSep Finset.univ fun a => barPay a c) ∗ ow c ∅ S) -∗ runs c (k ⟨⟩) Kt)
        -∗ runs c (.op (.semWait barS u) k) Kt) := by
  subst hu
  unfold ow
  iintro ⟨#HR, #HL, Hat, Hc, ⟨%W, HO⟩⟩ Hk
  iapply (Rounds.wp_wait_rest_token 𝒱₀ ER (sched X) (c : Thread nD τ) none (κ := K (c, .inl ()))
      (wpE_semWait_eq 𝒱₀ (c : Thread nD τ) none Set.univ) (Set.mem_univ _) () (k' := 3) (O := O c ∅ S) (W := W) (R := 0) (m := 0) (T := ∅)
      (by rw [expect_bar])) $$ [Hat Hc HO]
  · isplitr; · iapply (inv_at X K c (.inl ())); iexact HR
    isplitl [Hc]; · iexact Hc
    isplitl [HO]; · iexact HO
    isplitr
    · iapply (mayWait c (.reg barS) ∅ S (fun h => absurd h Finset.not_nonempty_empty)
        (fun i _ => by rw [lev_bar]; unfold rlev; split <;> decide)); iexact HL
    iexact Hat
  iintro ⟨HO, Hat, -, Hpay⟩
  imod (Rounds.cell_close ER (sched X) (Set.mem_univ (K (c, .inl ()))) (fun h => h) (R := 0 + 1)
      (duties_later X (barCell c))) $$ [Hat] with Hz
  · isplitr; · iapply (inv_at X K c (.inl ())); iexact HR
    iexact Hat
  iapply Hk
  isplitl [Hz]; · iexact Hz
  isplitl [Hpay]; · iapply (Entails.of_eq (rest_bar X c)); iexact Hpay
  iexists _; iexact HO

/-! ## Waits -/

/-- The wait where transfer `i` lands gives the region it filled. -/
theorem recv_rule {Kt : α → sProp 𝕄} (i : Fin 13) {S : Finset (Fin 13)} (hS : ∀ j ∈ S, rlev i < rlev j) {q : DmaSem sig} (hq : q = recvS i)
    {κ : Kind} {b : Ref sig κ} {s : Shape} {e : EltTy} {hm : (.tc : Proc τ) = .tc ∨ b.HasMemref s e} (hN : b.dmaCredit s e = N i) :
    iprop(records X K ∗ levAts L lv ∗ recvGh i c ∗ ow c ∅ S)
      ⊢ iprop(((semVal (recvCell i c) 0 ∗ recvPay X i c ∗ ow c ∅ S) -∗ runs c (k ⟨⟩) Kt)
        -∗ runs c (.op (.waitDma q b s e hm) k) Kt) := by
  subst hq
  unfold ow recvGh
  iintro ⟨#HR, #HL, ⟨Hat, Hc⟩, ⟨%W, HO⟩⟩ Hk
  iapply (Rounds.wp_wait_rest_token 𝒱₀ ER (sched X) (c : Thread nD τ) none (κ := K (c, .inr (.inr i)))
      (wpE_waitDma_eq 𝒱₀ (c : Thread nD τ) none Set.univ) (Set.mem_univ _) () (k' := b.dmaCredit s e) (O := O c ∅ S) (W := W) (R := 0) (m := 0) (T := ∅)
      (by rw [expect_recv, hN, Nat.zero_add])) $$ [Hat Hc HO]
  · isplitr; · iapply (inv_at X K c (.inr (.inr i))); iexact HR
    isplitl [Hc]; · rw [hN]; iexact Hc
    isplitl [HO]; · iexact HO
    isplitr
    · iapply (mayWait c (.dma (recvS i)) ∅ S (fun h => absurd h Finset.not_nonempty_empty)
        (fun j hj => by rw [lev_recv]; exact hS j hj)); iexact HL
    iexact Hat
  iintro ⟨HO, Hat, -, Hpay⟩
  imod (Rounds.cell_close ER (sched X) (Set.mem_univ (K (c, .inr (.inr i)))) (fun h => h) (R := 0 + 1)
      (duties_later X (recvCell i c))) $$ [Hat] with Hz
  · isplitr; · iapply (inv_at X K c (.inr (.inr i))); iexact HR
    iexact Hat
  iapply Hk
  isplitl [Hz]; · iexact Hz
  isplitl [Hpay]; · iapply (Entails.of_eq (rest_recv X c i)); iexact Hpay
  iexists _; iexact HO

/-- The wait where transfer `i` was sent gives its source back. -/
theorem sent_rule {Kt : α → sProp 𝕄} (i : Fin 13) {S : Finset (Fin 13)} {q : DmaSem sig} (hq : q = sendS i)
    {κ : Kind} {b : Ref sig κ} {s : Shape} {e : EltTy} {hm : (.tc : Proc τ) = .tc ∨ b.HasMemref s e} (hN : b.dmaCredit s e = N i) :
    iprop(records X K ∗ levAts L lv ∗ sentGh i c ∗ ow c ∅ S)
      ⊢ iprop(((semVal (sendCell i c) 0 ∗ sendPay X i c ∗ ow c ∅ S) -∗ runs c (k ⟨⟩) Kt)
        -∗ runs c (.op (.waitDma q b s e hm) k) Kt) := by
  subst hq
  unfold ow sentGh
  iintro ⟨#HR, #HL, ⟨Hat, Hc⟩, ⟨%W, HO⟩⟩ Hk
  iapply (Rounds.wp_wait_rest_token 𝒱₀ ER (sched X) (c : Thread nD τ) none (κ := K (c, .inr (.inl i)))
      (wpE_waitDma_eq 𝒱₀ (c : Thread nD τ) none Set.univ) (Set.mem_univ _) () (k' := b.dmaCredit s e) (O := O c ∅ S) (W := W) (R := 0) (m := 0) (T := ∅)
      (by rw [expect_send, hN, Nat.zero_add])) $$ [Hat Hc HO]
  · isplitr; · iapply (inv_at X K c (.inr (.inl i))); iexact HR
    isplitl [Hc]; · rw [hN]; iexact Hc
    isplitl [HO]; · iexact HO
    isplitr
    · iapply (mayWait c (.dma (sendS i)) ∅ S (fun h => absurd h Finset.not_nonempty_empty)
        (fun j hj => by rw [lev_send]; unfold rlev; split <;> decide)); iexact HL
    iexact Hat
  iintro ⟨HO, Hat, -, Hpay⟩
  imod (Rounds.cell_close ER (sched X) (Set.mem_univ (K (c, .inr (.inl i)))) (fun h => h) (R := 0 + 1)
      (duties_later X (sendCell i c))) $$ [Hat] with Hz
  · isplitr; · iapply (inv_at X K c (.inr (.inl i))); iexact HR
    iexact Hat
  iapply Hk
  isplitl [Hz]; · iexact Hz
  isplitl [Hpay]; · iapply (Entails.of_eq (rest_send X c i)); iexact Hpay
  iexists _; iexact HO

/-! ## Transfers -/

/-- The start of transfer `i` from a source whose share is what its send cell gives back, into a slice whose
    rewritten entries are what its receive cell gives. -/
theorem start_rule {Kt : α → sProp 𝕄} (i : Fin 13) {n : Dev nD} (hn : n = tgt i c) {S S' : Finset (Fin 13)} (hi : i ∈ S) (hS : S.erase i = S')
    {off size : Fin 2 → ℕ} {inb} (ho : off = ![base i c, 0]) (hsz : size = ![len i, 512])
    {src : Memref sig .tc .vmem ⟨2, size⟩ .f32} {sS rS : DmaSem sig} (hsS : sS = sendS i) (hrS : rS = recvS i)
    {q : PosShare TreeShare} {fs : Buf (Elt F) (src.view.loc (c : Thread nD τ))}
    (hpay : (src.view.loc (c : Thread nD τ) ↦[src.view.set]{q} fs : sProp 𝕄) = sendPay X i c)
    (hval : ∀ (f : S512x512.Idx → Elt F .f32), ∀ j ∈ (rp off size inb).view.set,
      (rp off size inb).view.write (Elt F) f (src.view.read (Elt F) fs) Finset.univ j = landed X (tgt i c) j)
    {hsc : (rp off size inb).view.ref.isScScratch = false} {hsrc : src.view.WordExact} {hdst : (rp off size inb).view.WordExact}
    {hsem : DmaTarget.Typed .vmem (.dma rS) (.remote (Dev.tc n : Thread nD τ) (rp off size inb) (.dma sS) hsc)} :
    iprop(records X K ∗ sendGh i c ∗ room i c ∗ sendPay X i c ∗ ow c ∅ S)
      ⊢ iprop(((sentGh i c ∗ ow c ∅ S') -∗ runs c (k ⟨⟩) Kt)
        -∗ runs c (.op (.enqueueDma src (.remote (Dev.tc n : Thread nD τ) (rp off size inb) (.dma sS) hsc) (.dma rS) hsrc hdst hsem) k) Kt) := by
  subst hn hS hsS hrS
  have hset : (rp off size inb).view.set = pset i c := rp_set ho hsz
  unfold ow sendGh room sentGh
  iintro ⟨#HR, ⟨Hat, Ht1, Ht2⟩, ⟨%f, Hroom⟩, Hsrc, ⟨%W, HO⟩⟩ Hk
  iapply (Rounds.wp_send_pointsTo 𝒱₀ ER (sched X) (c : Thread nD τ) none (κ₁ := K (c, .inr (.inl i))) (κ₂ := K (tgt i c, .inr (.inr i)))
      (c' := (tgt i c : Thread nD τ)) (src := src) (dst := rp off size inb) (sS := .dma (sendS i)) (sem := .dma (recvS i))
      (r₁ := 0) (r₂ := 0) (d₁ := 0) (d₂ := 0) (fs := fs) (fd := f) (q := q)
      (by rw [duties_send]; exact Finset.mem_singleton_self _) (by rw [duties_recv]; exact Finset.mem_singleton_self _)
      () () (N i) (by subst hsz; rfl) (amount_send X c i 0) (amount_recv X (tgt i c) i 0) (O c ∅ (S.erase i)) (O_recv c hi) (W := W)
      (by rw [payload_send]; exact Entails.of_eq hpay)
      (by
        rw [payload_recv]; unfold recvPay
        rw [lset_tgt, ← hset]
        exact Entails.of_eq (pointsTo_congr fun j hj => hval f j hj))) $$ [Ht1 Ht2 Hroom Hsrc HO]
  · isplitr; · iapply (inv_at X K c (.inr (.inl i))); iexact HR
    isplitr; · iapply (inv_at X K (tgt i c) (.inr (.inr i))); iexact HR
    isplitl [Hsrc]; · rw [hpay]; iexact Hsrc
    isplitl [Hroom]; · rw [hset]; iexact Hroom
    isplitl [HO]; · iexact HO
    isplitl [Ht1]; · iexact Ht1
    isplitr; · iapply (reached_at X K c (.inr (.inl i))); iexact HR
    isplitl [Ht2]; · iexact Ht2
    iapply (reached_at X K (tgt i c) (.inr (.inr i))); iexact HR
  iintro ⟨Hc, HO⟩
  iapply Hk
  isplitl [Hat Hc]
  · isplitl [Hat] <;> iassumption
  iexists W; iexact HO

/-- A transfer from the input. -/
theorem send_rule {Kt : α → sProp 𝕄} (i : Fin 13) (h5 : i.val < 5) {n : Dev nD} (hn : n = tgt i c) {S S' : Finset (Fin 13)} (hi : i ∈ S) (hS : S.erase i = S')
    {off size : Fin 2 → ℕ} {inb} (ho : off = ![base i c, 0]) (hsz : size = ![len i, 512])
    {xoff : Fin 3 → ℕ} {xinb sq} (hxo : xoff = ![0, base i c, 512 - 512 * (c.val / 4)])
    {sS rS : DmaSem sig} (hsS : sS = sendS i) (hrS : rS = recvS i)
    {hsc : (rp off size inb).view.ref.isScScratch = false} {hsrc : (xp xoff (Matrix.vecCons 1 size) xinb size sq).view.WordExact}
    {hdst : (rp off size inb).view.WordExact}
    {hsem : DmaTarget.Typed .vmem (.dma rS) (.remote (Dev.tc n : Thread nD τ) (rp off size inb) (.dma sS) hsc)} :
    iprop(records X K ∗ sendGh i c ∗ room i c ∗ sendPay X i c ∗ ow c ∅ S)
      ⊢ iprop(((sentGh i c ∗ ow c ∅ S') -∗ runs c (k ⟨⟩) Kt)
        -∗ runs c (.op (.enqueueDma (xp xoff (Matrix.vecCons 1 size) xinb size sq)
            (.remote (Dev.tc n : Thread nD τ) (rp off size inb) (.dma sS) hsc) (.dma rS) hsrc hdst hsem) k) Kt) := by
  refine start_rule X K c i hn hi hS ho hsz hsS hrS (q := fullShare.right) (fs := X c) ?_ ?_
  · unfold sendPay; rw [if_pos h5, xp_set (i := i) (c := c) hxo (by rw [hsz])]
  · intro f j hj
    have hd : tgt i c = nb 0 c := by unfold tgt dir; rw [if_pos h5]
    have he : (tgt i c).val / 4 = 1 - c.val / 4 := by
      rw [hd]; clear * -; revert c; decide
    rw [write_xr ho hsz hxo he f (X c) hj]
    exact landed_sent X h5 c (by rw [rp_set ho hsz] at hj; exact hj)

/-- A transfer that passes a received piece on. -/
theorem pass_rule {Kt : α → sProp 𝕄} (i : Fin 13) (h5 : 5 ≤ i.val) {n : Dev nD} (hn : n = tgt i c) {S S' : Finset (Fin 13)} (hi : i ∈ S) (hS : S.erase i = S')
    {off size : Fin 2 → ℕ} {inb inb'} (ho : off = ![base i c, 0]) (hsz : size = ![len i, 512])
    {sS rS : DmaSem sig} (hsS : sS = sendS i) (hrS : rS = recvS i)
    {hsc : (rp off size inb).view.ref.isScScratch = false} {hsrc : (rp off size inb').view.WordExact}
    {hdst : (rp off size inb).view.WordExact}
    {hsem : DmaTarget.Typed .vmem (.dma rS) (.remote (Dev.tc n : Thread nD τ) (rp off size inb) (.dma sS) hsc)} :
    iprop(records X K ∗ sendGh i c ∗ room i c ∗ sendPay X i c ∗ ow c ∅ S)
      ⊢ iprop(((sentGh i c ∗ ow c ∅ S') -∗ runs c (k ⟨⟩) Kt)
        -∗ runs c (.op (.enqueueDma (rp off size inb')
            (.remote (Dev.tc n : Thread nD τ) (rp off size inb) (.dma sS) hsc) (.dma rS) hsrc hdst hsem) k) Kt) := by
  refine start_rule X K c i hn hi hS ho hsz hsS hrS
    (q := if i.val < 9 then fullShare.right.left else fullShare.right.right) (fs := landed X c) ?_ ?_
  · unfold sendPay
    rw [if_neg (show ¬ i.val < 5 by omega), rp_set ho hsz]
    by_cases h9 : i.val < 9
    · rw [if_pos h9, if_pos h9]; rfl
    · rw [if_neg h9, if_neg h9]; rfl
  · intro f j hj
    rw [write_rr f (landed X c) hj]
    exact landed_passed X h5 c (by rw [rp_set ho hsz] at hj; exact hj)

end

end Cert.KRun

end
-- ==== Proof.Steps.lean ====
/-
# The kernel's steps in order

After its barrier a device takes 39 remote steps, always in the same order: 13 transfers start, 13 land and 13 are
waited for where they were sent. `state X c k` is what the device holds after the first `k` of them, and each kind of
step takes the state from `k` to `k + 1`.
-/
module

public import proofs.«01_k».proof.Proof.Rules

@[expose] public section

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The order -/

/-- The steps in order: `(0, i)` starts transfer `i`, `(1, i)` waits where transfer `i` lands, `(2, i)` waits where it
    was sent. -/
def order : List (Fin 3 × Fin 13) :=
  [(0, 0), (0, 1), (0, 2), (0, 3), (0, 4),
   (1, 0), (0, 5), (0, 9), (1, 1), (0, 6), (0, 10), (1, 2), (0, 7), (0, 11), (1, 3), (0, 8), (0, 12),
   (1, 5), (1, 6), (1, 7), (1, 8), (1, 9), (1, 10), (1, 11), (1, 12), (1, 4),
   (2, 0), (2, 1), (2, 2), (2, 3), (2, 4), (2, 5), (2, 9), (2, 6), (2, 10), (2, 7), (2, 11), (2, 8), (2, 12)]

/-- Whether one of the first `k` steps is `(a, i)`. -/
def did (k : ℕ) (a : Fin 3) (i : Fin 13) : Bool := (order.take k).contains (a, i)

/-- The transfer whose landing fills the source of transfer `i ≥ 5`. -/
def from' (i : Fin 13) : Fin 13 := if i.val < 9 then ⟨i.val - 5, by omega⟩ else ⟨i.val - 9, by omega⟩

/-- The transfers still to start. -/
def toStart (k : ℕ) : Finset (Fin 13) := Finset.univ.filter fun i => did k 0 i = false
/-- The transfers started and not yet waited for where they were sent. -/
def going (k : ℕ) : Finset (Fin 13) := Finset.univ.filter fun i => did k 0 i = true ∧ did k 2 i = false
/-- The transfers waited for where they were sent. -/
def ended (k : ℕ) : Finset (Fin 13) := Finset.univ.filter fun i => did k 2 i = true
/-- The transfers still to land. -/
def toLand (k : ℕ) : Finset (Fin 13) := Finset.univ.filter fun i => did k 1 i = false
/-- The transfers that have landed. -/
def inPlace (k : ℕ) : Finset (Fin 13) := Finset.univ.filter fun i => did k 1 i = true
/-- The transfers whose source the device holds. -/
def sources (k : ℕ) : Finset (Fin 13) := Finset.univ.filter fun i =>
  (i.val < 5 ∨ did k 1 (from' i) = true) ∧ (did k 0 i = false ∨ did k 2 i = true)

/-- `s'` is `s` without its member `i`. -/
abbrev Less (i : Fin 13) (s s' : Finset (Fin 13)) : Prop := i ∈ s ∧ s.erase i = s'

/-- What starting transfer `i` as step `k` does to the sets. -/
abbrev StartsAt (i : Fin 13) (k : ℕ) : Prop :=
  Less i (toStart k) (toStart (k + 1)) ∧ Less i (going (k + 1)) (going k) ∧ ended (k + 1) = ended k
    ∧ toLand (k + 1) = toLand k ∧ inPlace (k + 1) = inPlace k ∧ Less i (sources k) (sources (k + 1))

/-- What the landing of transfer `i` as step `k` does to the sets, all but the sources. -/
abbrev LandsAt (i : Fin 13) (k : ℕ) : Prop :=
  toStart (k + 1) = toStart k ∧ going (k + 1) = going k ∧ ended (k + 1) = ended k
    ∧ Less i (toLand k) (toLand (k + 1)) ∧ Less i (inPlace (k + 1)) (inPlace k)
    ∧ ∀ j ∈ toStart k, rlev i < rlev j

/-- What the end of transfer `i` as step `k` does to the sets. -/
abbrev EndsAt (i : Fin 13) (k : ℕ) : Prop :=
  toStart (k + 1) = toStart k ∧ Less i (going k) (going (k + 1)) ∧ Less i (ended (k + 1)) (ended k)
    ∧ toLand (k + 1) = toLand k ∧ inPlace (k + 1) = inPlace k ∧ Less i (sources (k + 1)) (sources k)

/-- Taking a member out of a product over a set. -/
theorem bigSep_less {i : Fin 13} {s s' : Finset (Fin 13)} (h : Less i s s') (Φ : Fin 13 → sProp 𝕄) :
    bigSep s Φ = iprop(Φ i ∗ bigSep s' Φ) := by
  rw [BI.bigSep_erase h.1, h.2]; rfl

/-! ## What a device holds -/

variable (X : Inputs F) (K : Dev nD × CI → ℕ)

/-- What stays out of transfers of a region of the receive buffer that has been filled: half of a piece the device
    passes on, all of another. -/
def keep (i : Fin 13) (c : Dev nD) : sProp 𝕄 :=
  if i.val < 4 then iprop(rloc c ↦[lset i c]{fullShare.left} landed X c)
  else iprop(rloc c ↦[lset i c]{fullShare} landed X c)

/-- What device `c` holds after its first `k` steps. -/
def state (c : Dev nD) (k : ℕ) : sProp 𝕄 :=
  iprop(ow c ∅ (toStart k)
    ∗ (bigSep (toStart k) fun i => iprop(sendGh i c ∗ room i c))
    ∗ (bigSep (going k) fun i => sentGh i c)
    ∗ (bigSep (ended k) fun i => iprop(semVal (sendCell i c) 0))
    ∗ (bigSep (toLand k) fun i => recvGh i c)
    ∗ (bigSep (inPlace k) fun i => iprop(semVal (recvCell i c) 0))
    ∗ (bigSep (inPlace k) fun i => keep X i c)
    ∗ bigSep (sources k) fun i => sendPay X i c)

/-- A share of a region is its two halves. -/
theorem halves {ℓ : Loc nD τ sig} {I : Finset (Idx ℓ)} (q : PosShare TreeShare) {f : Buf (Elt F) ℓ} :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- A landed piece is what stays and the sources of the two transfers that pass it on. -/
theorem recv_split (p : Fin 4) (c : Dev nD) :
    recvPay X (t0 p) c = iprop(keep X (t0 p) c ∗ sendPay X (t1 p) c ∗ sendPay X (t2 p) c) := by
  have h0 : (t0 p).val < 4 := p.isLt
  have h1 : ¬ (t1 p).val < 5 := by show ¬ 5 + p.val < 5; omega
  have h1' : (t1 p).val < 9 := by show 5 + p.val < 9; have := p.isLt; omega
  have h2 : ¬ (t2 p).val < 5 := by show ¬ 9 + p.val < 5; omega
  have h2' : ¬ (t2 p).val < 9 := by show ¬ 9 + p.val < 9; omega
  unfold recvPay keep sendPay
  rw [if_pos h0, if_neg h1, if_pos h1', if_neg h2, if_neg h2', pset_t1, pset_t2]
  rw [halves fullShare, halves fullShare.right]

/-- Another landed region stays. -/
theorem recv_keep {i : Fin 13} (h : 4 ≤ i.val) (c : Dev nD) : recvPay X i c = keep X i c := by
  unfold recvPay keep; rw [if_neg (by omega)]

section
variable {α : Type} {k : PUnit → Prog (TpuEff nD τ sig (Elt F) Λ₀ .tc) α} (c : Dev nD)

/-- The start of a transfer from the input, as step `m`. -/
theorem send_step {Kt : α → sProp 𝕄} (m : ℕ) (i : Fin 13) (h5 : i.val < 5) (hm : StartsAt i m) {n : Dev nD} (hn : n = tgt i c)
    {off size : Fin 2 → ℕ} {inb} (ho : off = ![base i c, 0]) (hsz : size = ![len i, 512])
    {xoff : Fin 3 → ℕ} {xinb sq} (hxo : xoff = ![0, base i c, 512 - 512 * (c.val / 4)])
    {sS rS : DmaSem sig} (hsS : sS = sendS i) (hrS : rS = recvS i)
    {hsc : (rp off size inb).view.ref.isScScratch = false} {hsrc : (xp xoff (Matrix.vecCons 1 size) xinb size sq).view.WordExact}
    {hdst : (rp off size inb).view.WordExact}
    {hsem : DmaTarget.Typed .vmem (.dma rS) (.remote (Dev.tc n : Thread nD τ) (rp off size inb) (.dma sS) hsc)} :
    iprop(records X K ∗ state X c m)
      ⊢ iprop((state X c (m + 1) -∗ runs c (k ⟨⟩) Kt)
        -∗ runs c (.op (.enqueueDma (xp xoff (Matrix.vecCons 1 size) xinb size sq)
            (.remote (Dev.tc n : Thread nD τ) (rp off size inb) (.dma sS) hsc) (.dma rS) hsrc hdst hsem) k) Kt) := by
  obtain ⟨hA, hB, hC, hR, hD, hV⟩ := hm
  unfold state
  rw [bigSep_less hA, bigSep_less hB, hC, hR, hD, bigSep_less hV]
  iintro ⟨#HR, HO, ⟨⟨Hg, Hr⟩, HA⟩, HB, HC, HL, HD, HK, Hs, HV⟩ Hk
  iapply (send_rule X K c i h5 hn hA.1 hA.2 ho hsz hxo hsS hrS) $$ [HO Hg Hr Hs]
  · isplitr; · iexact HR
    isplitl [Hg]; · iexact Hg
    isplitl [Hr]; · iexact Hr
    isplitl [Hs]; · iexact Hs
    iexact HO
  iintro ⟨Hg, HO⟩
  iapply Hk
  isplitl [HO]; · iexact HO
  isplitl [HA]; · iexact HA
  isplitl [Hg HB]
  · isplitl [Hg] <;> iassumption
  isplitl [HC]; · iexact HC
  isplitl [HL]; · iexact HL
  isplitl [HD]; · iexact HD
  isplitl [HK] <;> iassumption

/-- The start of a transfer that passes a landed piece on, as step `m`. -/
theorem pass_step {Kt : α → sProp 𝕄} (m : ℕ) (i : Fin 13) (h5 : 5 ≤ i.val) (hm : StartsAt i m) {n : Dev nD} (hn : n = tgt i c)
    {off size : Fin 2 → ℕ} {inb inb'} (ho : off = ![base i c, 0]) (hsz : size = ![len i, 512])
    {sS rS : DmaSem sig} (hsS : sS = sendS i) (hrS : rS = recvS i)
    {hsc : (rp off size inb).view.ref.isScScratch = false} {hsrc : (rp off size inb').view.WordExact}
    {hdst : (rp off size inb).view.WordExact}
    {hsem : DmaTarget.Typed .vmem (.dma rS) (.remote (Dev.tc n : Thread nD τ) (rp off size inb) (.dma sS) hsc)} :
    iprop(records X K ∗ state X c m)
      ⊢ iprop((state X c (m + 1) -∗ runs c (k ⟨⟩) Kt)
        -∗ runs c (.op (.enqueueDma (rp off size inb')
            (.remote (Dev.tc n : Thread nD τ) (rp off size inb) (.dma sS) hsc) (.dma rS) hsrc hdst hsem) k) Kt) := by
  obtain ⟨hA, hB, hC, hR, hD, hV⟩ := hm
  unfold state
  rw [bigSep_less hA, bigSep_less hB, hC, hR, hD, bigSep_less hV]
  iintro ⟨#HR, HO, ⟨⟨Hg, Hr⟩, HA⟩, HB, HC, HL, HD, HK, Hs, HV⟩ Hk
  iapply (pass_rule X K c i h5 hn hA.1 hA.2 ho hsz hsS hrS) $$ [HO Hg Hr Hs]
  · isplitr; · iexact HR
    isplitl [Hg]; · iexact Hg
    isplitl [Hr]; · iexact Hr
    isplitl [Hs]; · iexact Hs
    iexact HO
  iintro ⟨Hg, HO⟩
  iapply Hk
  isplitl [HO]; · iexact HO
  isplitl [HA]; · iexact HA
  isplitl [Hg HB]
  · isplitl [Hg] <;> iassumption
  isplitl [HC]; · iexact HC
  isplitl [HL]; · iexact HL
  isplitl [HD]; · iexact HD
  isplitl [HK] <;> iassumption

/-- The landing of a piece the device passes on, as step `m`. -/
theorem piece_step {Kt : α → sProp 𝕄} (m : ℕ) (p : Fin 4) (hm : LandsAt (t0 p) m)
    (hV : t1 p ∈ sources (m + 1) ∧ Less (t2 p) ((sources (m + 1)).erase (t1 p)) (sources m))
    {q : DmaSem sig} (hq : q = recvS (t0 p))
    {κ : Kind} {b : Ref sig κ} {s : Shape} {e : EltTy} {hb : (.tc : Proc τ) = .tc ∨ b.HasMemref s e} (hN : b.dmaCredit s e = N (t0 p)) :
    iprop(records X K ∗ levAts L lv ∗ state X c m)
      ⊢ iprop((state X c (m + 1) -∗ runs c (k ⟨⟩) Kt)
        -∗ runs c (.op (.waitDma q b s e hb) k) Kt) := by
  obtain ⟨hA, hB, hC, hR, hD, hl⟩ := hm
  unfold state
  rw [hA, hB, hC, bigSep_less hR, bigSep_less hD, bigSep_less hD, bigSep_less ⟨hV.1, rfl⟩, bigSep_less hV.2]
  iintro ⟨#HR, #HL, HO, HA, HB, HC, ⟨Hg, HL'⟩, HD, HK, HV⟩ Hk
  iapply (recv_rule X K c (t0 p) hl hq hN) $$ [HO Hg]
  · isplitr; · iexact HR
    isplitr; · iexact HL
    isplitl [Hg] <;> iassumption
  rw [recv_split]
  iintro ⟨Hz, ⟨Hp, H1, H2⟩, HO⟩
  iapply Hk
  isplitl [HO]; · iexact HO
  isplitl [HA]; · iexact HA
  isplitl [HB]; · iexact HB
  isplitl [HC]; · iexact HC
  isplitl [HL']; · iexact HL'
  isplitl [Hz HD]; · isplitl [Hz] <;> iassumption
  isplitl [Hp HK]; · isplitl [Hp] <;> iassumption
  isplitl [H1]; · iexact H1
  isplitl [H2] <;> iassumption

/-- The landing of another region, as step `m`. -/
theorem land_step {Kt : α → sProp 𝕄} (m : ℕ) (i : Fin 13) (h4 : 4 ≤ i.val) (hm : LandsAt i m)
    (hV : sources (m + 1) = sources m)
    {q : DmaSem sig} (hq : q = recvS i)
    {κ : Kind} {b : Ref sig κ} {s : Shape} {e : EltTy} {hb : (.tc : Proc τ) = .tc ∨ b.HasMemref s e} (hN : b.dmaCredit s e = N i) :
    iprop(records X K ∗ levAts L lv ∗ state X c m)
      ⊢ iprop((state X c (m + 1) -∗ runs c (k ⟨⟩) Kt)
        -∗ runs c (.op (.waitDma q b s e hb) k) Kt) := by
  obtain ⟨hA, hB, hC, hR, hD, hl⟩ := hm
  unfold state
  rw [hA, hB, hC, bigSep_less hR, bigSep_less hD, bigSep_less hD, hV]
  iintro ⟨#HR, #HL, HO, HA, HB, HC, ⟨Hg, HL'⟩, HD, HK, HV⟩ Hk
  iapply (recv_rule X K c i hl hq hN) $$ [HO Hg]
  · isplitr; · iexact HR
    isplitr; · iexact HL
    isplitl [Hg] <;> iassumption
  rw [recv_keep X h4]
  iintro ⟨Hz, Hp, HO⟩
  iapply Hk
  isplitl [HO]; · iexact HO
  isplitl [HA]; · iexact HA
  isplitl [HB]; · iexact HB
  isplitl [HC]; · iexact HC
  isplitl [HL']; · iexact HL'
  isplitl [Hz HD]; · isplitl [Hz] <;> iassumption
  isplitl [Hp HK]; · isplitl [Hp] <;> iassumption
  iexact HV

/-- The end of a transfer at its sender, as step `m`. -/
theorem end_step {Kt : α → sProp 𝕄} (m : ℕ) (i : Fin 13) (hm : EndsAt i m)
    {q : DmaSem sig} (hq : q = sendS i)
    {κ : Kind} {b : Ref sig κ} {s : Shape} {e : EltTy} {hb : (.tc : Proc τ) = .tc ∨ b.HasMemref s e} (hN : b.dmaCredit s e = N i) :
    iprop(records X K ∗ levAts L lv ∗ state X c m)
      ⊢ iprop((state X c (m + 1) -∗ runs c (k ⟨⟩) Kt)
        -∗ runs c (.op (.waitDma q b s e hb) k) Kt) := by
  obtain ⟨hA, hB, hC, hR, hD, hV⟩ := hm
  unfold state
  rw [hA, bigSep_less hB, bigSep_less hC, hR, hD, bigSep_less hV]
  iintro ⟨#HR, #HL, HO, HA, ⟨Hg, HB⟩, HC, HL', HD, HK, HV⟩ Hk
  iapply (sent_rule X K c i hq hN) $$ [HO Hg]
  · isplitr; · iexact HR
    isplitr; · iexact HL
    isplitl [Hg] <;> iassumption
  iintro ⟨Hz, Hp, HO⟩
  iapply Hk
  isplitl [HO]; · iexact HO
  isplitl [HA]; · iexact HA
  isplitl [HB]; · iexact HB
  isplitl [Hz HC]; · isplitl [Hz] <;> iassumption
  isplitl [HL']; · iexact HL'
  isplitl [HD]; · iexact HD
  isplitl [HK]; · iexact HK
  isplitl [Hp] <;> iassumption

end

end Cert.KRun

end
-- ==== Proof.Buffers.lean ====
/-
# Dividing and joining the buffers

Before the barrier a device's receive buffer is divided into the 13 regions its neighbours write, and its input into
the parts it sends. Afterwards the parts are joined again.
-/
module

public import proofs.«01_k».proof.Proof.Steps

@[expose] public section

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inputs F) (c : Dev nD)

/-! ## The receive buffer -/

/-- A share of the receive buffer is that share of each of its 13 regions. -/
theorem regions (q : PosShare TreeShare) (f : Buf (Elt F) (rloc c)) :
    (rloc c ↦[Finset.univ]{q} f : sProp 𝕄) = bigSep Finset.univ fun i : Fin 13 => rloc c ↦[lset i c]{q} f := by
  have hd : ∀ i ∈ (Finset.univ : Finset (Fin 13)), ∀ j ∈ (Finset.univ : Finset (Fin 13)), i ≠ j → Disjoint (lset i c) (lset j c) :=
    fun i _ j _ h => lset_disjoint c i j h
  have h : (rloc c ↦[Finset.univ.biUnion fun i : Fin 13 => lset i c]{q} f : sProp 𝕄)
      = bigSep Finset.univ fun i : Fin 13 => rloc c ↦[lset i c]{q} f := pointsTo_biUnion Finset.univ _ hd
  rw [lset_cover c] at h; exact h

/-- The axes one by one. -/
theorem axes (Φ : Fin 3 → sProp 𝕄) : bigSep Finset.univ Φ = iprop(Φ 0 ∗ Φ 1 ∗ Φ 2) :=
  bigSep_univ_eq_bigSepL [(0 : Fin 3), 1, 2] (by decide) (by decide) Φ

/-- The 13 transfers one by one are the transfers across each axis. -/
theorem by_axis (Φ : Fin 13 → sProp 𝕄) :
    bigSep Finset.univ Φ = bigSep Finset.univ fun a : Fin 3 => bigSep (along a) Φ := by
  rw [axes]
  have h : (Finset.univ : Finset (Fin 13)) = along 0 ∪ (along 1 ∪ along 2) := by decide
  rw [h, BI.bigSep_union (by decide), BI.bigSep_union (by decide)]
  rfl

/-- A region at known contents is a region at some contents. -/
theorem some_contents {I : Finset (Idx (rloc c))} (f : Buf (Elt F) (rloc c)) :
    (rloc c ↦[I]{fullShare} f : sProp 𝕄) ⊢ iprop(∃ g, rloc c ↦[I]{fullShare} g) := by
  iintro H; iexists f; iexact H

/-- The receive buffer, divided among the three neighbours that write it. -/
theorem hand_out (f : Buf (Elt F) (rloc c)) :
    (rloc c ↦[Finset.univ]{fullShare} f : sProp 𝕄) ⊢ iprop(barPay 0 (nb 0 c) ∗ barPay 1 (nb 1 c) ∗ barPay 2 (nb 2 c)) := by
  rw [regions, by_axis, axes]
  have h : ∀ a : Fin 3, (bigSep (along a) fun i : Fin 13 => (rloc c ↦[lset i c]{fullShare} f : sProp 𝕄)) ⊢ barPay a (nb a c) := by
    intro a
    unfold barPay
    refine bigSep_mono fun i hi => ?_
    have ha : dir i = a := (Finset.mem_filter.mp hi).2
    have ht : tgt i (nb a c) = c := by unfold tgt; rw [ha, nb_nb]
    unfold lset
    rw [ht, show tgt i c = nb a c by unfold tgt; rw [ha]]
    exact some_contents c f
  iintro ⟨H0, H1, H2⟩
  isplitl [H0]; · iapply (h 0); iexact H0
  isplitl [H1]; · iapply (h 1); iexact H1
  iapply (h 2); iexact H2

/-- What the three neighbours hand over is the room for all transfers. -/
theorem rooms : (bigSep Finset.univ fun a : Fin 3 => (barPay a c : sProp 𝕄)) = bigSep Finset.univ fun i => room i c := by
  rw [by_axis]; rfl

/-- What is left of a kept region beside its half to read. -/
def beside (i : Fin 13) : sProp 𝕄 :=
  if i.val < 4 then iprop(emp) else iprop(rloc c ↦[lset i c]{fullShare.right} landed X c)

/-- A kept region is a half of it to read and what is beside. -/
theorem keep_eq (i : Fin 13) : keep X i c = iprop((rloc c ↦[lset i c]{fullShare.left} landed X c) ∗ beside X c i) := by
  unfold keep beside
  by_cases h : i.val < 4
  · rw [if_pos h, if_pos h]; exact BI.Entails.antisymm BI.sep_emp.2 BI.sep_emp.1
  · rw [if_neg h, if_neg h]; exact halves fullShare

/-- What stays of the 13 regions, once all have landed, is half of the whole buffer to read and what is beside. -/
theorem kept : (bigSep Finset.univ fun i => keep X i c)
    = iprop((rloc c ↦[Finset.univ]{fullShare.left} landed X c) ∗ bigSep Finset.univ fun i => beside X c i) := by
  rw [regions, ← bigSep_sep']
  exact bigSep_congr fun i _ => keep_eq X c i

/-- The transfers from the input. -/
def inputs : Finset (Fin 13) := Finset.univ.filter fun i => i.val < 5

/-- At the end all the shares of the receive buffer are back. -/
theorem join_recv : iprop((bigSep Finset.univ fun i => keep X i c) ∗ bigSep Finset.univ fun i => sendPay X i c)
    ⊢ iprop((rloc c ↦[Finset.univ]{fullShare} landed X c) ∗ bigSep inputs fun i => sendPay X i c) := by
  have e0 : recvPay X 0 c = iprop(keep X 0 c ∗ sendPay X 5 c ∗ sendPay X 9 c) := recv_split X 0 c
  have e1 : recvPay X 1 c = iprop(keep X 1 c ∗ sendPay X 6 c ∗ sendPay X 10 c) := recv_split X 1 c
  have e2 : recvPay X 2 c = iprop(keep X 2 c ∗ sendPay X 7 c ∗ sendPay X 11 c) := recv_split X 2 c
  have e3 : recvPay X 3 c = iprop(keep X 3 c ∗ sendPay X 8 c ∗ sendPay X 12 c) := recv_split X 3 c
  have hk : ∀ i : Fin 13, 4 ≤ i.val → keep X i c = recvPay X i c := fun i h => (recv_keep X h c).symm
  have hf : (rloc c ↦[Finset.univ]{fullShare} landed X c : sProp 𝕄) = bigSep Finset.univ fun i : Fin 13 => recvPay X i c :=
    regions c fullShare (landed X c)
  have hin : inputs = ({0, 1, 2, 3, 4} : Finset (Fin 13)) := by decide
  have hl : ∀ Φ : Fin 13 → sProp 𝕄, bigSep inputs Φ = iprop(Φ 0 ∗ Φ 1 ∗ Φ 2 ∗ Φ 3 ∗ Φ 4) := by
    intro Φ
    rw [hin, bigSep_less (i := 0) (s' := {1, 2, 3, 4}) (by decide), bigSep_less (i := 1) (s' := {2, 3, 4}) (by decide),
      bigSep_less (i := 2) (s' := {3, 4}) (by decide), bigSep_less (i := 3) (s' := {4}) (by decide), bigSep_singleton]
  have hu : ∀ Φ : Fin 13 → sProp 𝕄, bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := fun Φ =>
    bigSep_univ_eq_bigSepL [(0 : Fin 13), 1, 2, 3, 4, 5, 6, 7, 8, 9, 10, 11, 12] (by decide) (by decide) Φ
  rw [hf, hl, hu, hu, hu, e0, e1, e2, e3, hk 4 (by decide), hk 5 (by decide), hk 6 (by decide), hk 7 (by decide),
    hk 8 (by decide), hk 9 (by decide), hk 10 (by decide), hk 11 (by decide), hk 12 (by decide)]
  iintro ⟨⟨K0, K1, K2, K3, K4, K5, K6, K7, K8, K9, K10, K11, K12⟩, S0, S1, S2, S3, S4, S5, S6, S7, S8, S9, S10, S11, S12⟩
  isplitr [S0 S1 S2 S3 S4]
  · isplitl [K0 S5 S9]
    · isplitl [K0]; · iexact K0
      isplitl [S5] <;> iassumption
    isplitl [K1 S6 S10]
    · isplitl [K1]; · iexact K1
      isplitl [S6] <;> iassumption
    isplitl [K2 S7 S11]
    · isplitl [K2]; · iexact K2
      isplitl [S7] <;> iassumption
    isplitl [K3 S8 S12]
    · isplitl [K3]; · iexact K3
      isplitl [S8] <;> iassumption
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11] <;> iassumption
  · isplitl [S0]; · iexact S0
    isplitl [S1]; · iexact S1
    isplitl [S2]; · iexact S2
    isplitl [S3] <;> iassumption

/-! ## The input -/

/-- The half of the input no transfer reads. -/
def xother : sProp 𝕄 :=
  iprop(xloc c ↦[Finset.univ \ inputs.biUnion fun i => xset i c]{fullShare.right} X c)

/-- The transfers from the input are the first five. -/
theorem inputs_lt : ∀ i ∈ inputs, i.val < 5 := by decide

/-- A part of a region comes apart from the rest of it. -/
theorem split_off {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.Entails.antisymm (pointsTo_split_subset h).1 (pointsTo_split_subset h).2

/-- The halves of the parts sent are half of their union. -/
theorem inputs_sent : (bigSep inputs fun i => sendPay X i c)
    = (xloc c ↦[inputs.biUnion fun i => xset i c]{fullShare.right} X c : sProp 𝕄) := by
  have h : ∀ i ∈ inputs, ∀ j ∈ inputs, i ≠ j → Disjoint (xset i c) (xset j c) := fun i hi j hj h =>
    xset_disjoint c i j (inputs_lt i hi) (inputs_lt j hj) h
  have e : (xloc c ↦[inputs.biUnion fun i => xset i c]{fullShare.right} X c : sProp 𝕄)
      = bigSep inputs fun i => xloc c ↦[xset i c]{fullShare.right} X c := pointsTo_biUnion inputs _ h
  rw [e]
  refine bigSep_congr fun i hi => ?_
  unfold sendPay; rw [if_pos (inputs_lt i hi)]

/-- The input is a half to read, the halves of the parts sent, and the other half of the rest. -/
theorem x_parts : (xloc c ↦[Finset.univ]{fullShare} X c : sProp 𝕄)
    = iprop((xloc c ↦[Finset.univ]{fullShare.left} X c) ∗ (bigSep inputs fun i => sendPay X i c) ∗ xother X c) := by
  rw [inputs_sent, halves fullShare]
  unfold xother
  rw [split_off (q := fullShare.right) (Finset.subset_univ (inputs.biUnion fun i => xset i c))]

/-! ## The first state and the last -/

/-- After the barrier nothing has started. -/
theorem state_zero :
    iprop(ow c ∅ Finset.univ ∗ (bigSep Finset.univ fun i => sendGh i c) ∗ (bigSep Finset.univ fun i => room i c)
      ∗ (bigSep Finset.univ fun i => recvGh i c) ∗ (bigSep inputs fun i => sendPay X i c)) ⊢ state X c 0 := by
  unfold state
  rw [show toStart 0 = Finset.univ by decide, show going 0 = ∅ by decide, show ended 0 = ∅ by decide,
    show toLand 0 = Finset.univ by decide, show inPlace 0 = ∅ by decide, show sources 0 = inputs by decide]
  simp only [bigSep_empty, bigSep_sep']
  iintro ⟨HO, Hg, Hr, HL, HV⟩
  isplitl [HO]; · iexact HO
  isplitl [Hg Hr]; · isplitl [Hg] <;> iassumption
  isplitr; · iempintro
  isplitr; · iempintro
  isplitl [HL]; · iexact HL
  isplitr; · iempintro
  isplitr; · iempintro
  iexact HV

/-- Once all has landed, half of the receive buffer can be read. -/
theorem state_read : state X c 26 ⊢ iprop((rloc c ↦[Finset.univ]{fullShare.left} landed X c)
    ∗ ((rloc c ↦[Finset.univ]{fullShare.left} landed X c) -∗ state X c 26)) := by
  unfold state
  rw [show inPlace 26 = Finset.univ by decide, kept]
  iintro ⟨HO, HA, HB, HC, HL, HD, ⟨HK, Hb⟩, HV⟩
  isplitl [HK]; · iexact HK
  iintro HK
  isplitl [HO]; · iexact HO
  isplitl [HA]; · iexact HA
  isplitl [HB]; · iexact HB
  isplitl [HC]; · iexact HC
  isplitl [HL]; · iexact HL
  isplitl [HD]; · iexact HD
  isplitl [HK Hb]; · isplitl [HK] <;> iassumption
  iexact HV

/-- At the end nothing is owed, every counter is zero and both buffers are whole but for the half of the input kept. -/
theorem state_last : state X c 39 ⊢ iprop(ow c ∅ ∅ ∗ (bigSep Finset.univ fun i => semVal (sendCell i c) 0)
    ∗ (bigSep Finset.univ fun i => semVal (recvCell i c) 0)
    ∗ (rloc c ↦[Finset.univ]{fullShare} landed X c) ∗ bigSep inputs fun i => sendPay X i c) := by
  unfold state
  rw [show toStart 39 = ∅ by decide, show going 39 = ∅ by decide, show ended 39 = Finset.univ by decide,
    show toLand 39 = ∅ by decide, show inPlace 39 = Finset.univ by decide, show sources 39 = Finset.univ by decide]
  iintro ⟨HO, -, -, HC, -, HD, HK, HV⟩
  isplitl [HO]; · iexact HO
  isplitl [HC]; · iexact HC
  isplitl [HD]; · iexact HD
  iapply (join_recv X c)
  isplitl [HK] <;> iassumption

end Cert.KRun

end
-- ==== Proof.Parts1.lean ====
/-
# The kernel's parts: transfers start

The printed kernel is a sequence of parts. Each is run here from the state before its first step to the state after
its last. This module has the parts from the first transfer to the last transfer that passes a piece on.
-/
module

public import proofs.«01_k».proof.Proof.Buffers

@[expose] public section

set_option maxRecDepth 8000

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices and offsets -/

/-- Signal 1 goes to the neighbour across the first axis. -/
theorem dev1_to : ∀ c : Dev nD, (⟨k0_dev1 c, k0_dev1_lt c⟩ : Dev nD) = nb 0 c := by decide +kernel
/-- Signal 2 goes to the neighbour across the second axis. -/
theorem dev2_to : ∀ c : Dev nD, (⟨k0_dev2 c, k0_dev2_lt c⟩ : Dev nD) = nb 1 c := by decide +kernel
/-- Signal 3 goes to the neighbour across the third axis. -/
theorem dev3_to : ∀ c : Dev nD, (⟨k0_dev3 c, k0_dev3_lt c⟩ : Dev nD) = nb 2 c := by decide +kernel
/-- Copy 1, in the order in which they start, is transfer 0, and goes where that does. -/
theorem dev4_to : ∀ c : Dev nD, (⟨k0_dev4 c, k0_dev4_lt c⟩ : Dev nD) = tgt 0 c := by decide +kernel
/-- Copy 2, in the order in which they start, is transfer 1, and goes where that does. -/
theorem dev5_to : ∀ c : Dev nD, (⟨k0_dev5 c, k0_dev5_lt c⟩ : Dev nD) = tgt 1 c := by decide +kernel
/-- Copy 3, in the order in which they start, is transfer 2, and goes where that does. -/
theorem dev6_to : ∀ c : Dev nD, (⟨k0_dev6 c, k0_dev6_lt c⟩ : Dev nD) = tgt 2 c := by decide +kernel
/-- Copy 4, in the order in which they start, is transfer 3, and goes where that does. -/
theorem dev7_to : ∀ c : Dev nD, (⟨k0_dev7 c, k0_dev7_lt c⟩ : Dev nD) = tgt 3 c := by decide +kernel
/-- Copy 5, in the order in which they start, is transfer 4, and goes where that does. -/
theorem dev8_to : ∀ c : Dev nD, (⟨k0_dev8 c, k0_dev8_lt c⟩ : Dev nD) = tgt 4 c := by decide +kernel
/-- Copy 6, in the order in which they start, is transfer 5, and goes where that does. -/
theorem dev9_to : ∀ c : Dev nD, (⟨k0_dev9 c, k0_dev9_lt c⟩ : Dev nD) = tgt 5 c := by decide +kernel
/-- Copy 7, in the order in which they start, is transfer 9, and goes where that does. -/
theorem dev10_to : ∀ c : Dev nD, (⟨k0_dev10 c, k0_dev10_lt c⟩ : Dev nD) = tgt 9 c := by decide +kernel
/-- Copy 8, in the order in which they start, is transfer 6, and goes where that does. -/
theorem dev11_to : ∀ c : Dev nD, (⟨k0_dev11 c, k0_dev11_lt c⟩ : Dev nD) = tgt 6 c := by decide +kernel
/-- Copy 9, in the order in which they start, is transfer 10, and goes where that does. -/
theorem dev12_to : ∀ c : Dev nD, (⟨k0_dev12 c, k0_dev12_lt c⟩ : Dev nD) = tgt 10 c := by decide +kernel
/-- Copy 10, in the order in which they start, is transfer 7, and goes where that does. -/
theorem dev13_to : ∀ c : Dev nD, (⟨k0_dev13 c, k0_dev13_lt c⟩ : Dev nD) = tgt 7 c := by decide +kernel
/-- Copy 11, in the order in which they start, is transfer 11, and goes where that does. -/
theorem dev14_to : ∀ c : Dev nD, (⟨k0_dev14 c, k0_dev14_lt c⟩ : Dev nD) = tgt 11 c := by decide +kernel
/-- Copy 12, in the order in which they start, is transfer 8, and goes where that does. -/
theorem dev15_to : ∀ c : Dev nD, (⟨k0_dev15 c, k0_dev15_lt c⟩ : Dev nD) = tgt 8 c := by decide +kernel
/-- Copy 13, in the order in which they start, is transfer 12, and goes where that does. -/
theorem dev16_to : ∀ c : Dev nD, (⟨k0_dev16 c, k0_dev16_lt c⟩ : Dev nD) = tgt 12 c := by decide +kernel

/-- The four pieces' offset words. -/
def word (i : Fin 13) : BitVec 32 := BitVec.ofNat 32 (32 * (if i.val < 4 then i.val else (i.val - 1) % 4))

/-- Where a piece lands. -/
theorem off1_at : ∀ (c : Dev nD) (i : Fin 13), i ≠ 4 → k0_off1 c (word i) = ![base i c, 0] := by decide +kernel
/-- Where a piece is sent from in the input. -/
theorem off2_at : ∀ (c : Dev nD) (i : Fin 13), i.val < 4 → k0_off2 c (word i) = ![0, base i c, 512 - 512 * (c.val / 4)] := by
  decide +kernel
/-- Where the quarter sent whole lands. -/
theorem off3_at : ∀ c : Dev nD, k0_off3 c = ![base 4 c, 0] := by decide +kernel
/-- Where the quarter sent whole is sent from in the input. -/
theorem off4_at : ∀ c : Dev nD, k0_off4 c = ![0, base 4 c, 512 - 512 * (c.val / 4)] := by decide +kernel

variable (X : Inputs F) (K : Dev nD × CI → ℕ) (c : Dev nD)

/-- Part 3: transfer 1 starts and transfer 2 starts. -/
theorem part3 {Kt : (BitVec 32) → sProp 𝕄} (h0 h1 h2) (v5 v8 v9 v13 v63 : BitVec 32) :
    iprop(records X K ∗ levAts L lv ∗ state X c 1 ∗ (∀ r, state X c 3 -∗ Kt r))
      ⊢ runs c (k0_part3_skel xM h0 oM h1 rM h2 cc0_scratch1 cc0_scratch2 c v5 v8 v9 v13 v63) Kt := by
  unfold k0_part3_skel
  simp only [Prog.lift, Prog.bind_op, Prog.bind_ret, Prog.pure_eq_ret]
  iintro ⟨#HR, #HL, HS, Hk⟩
  iapply (send_step X K c 1 1 (by decide) (by decide) (dev5_to c) (off1_at c 1 (by decide)) rfl (off2_at c 1 (by decide)) rfl rfl) $$ [HS]
  · isplitr; · iexact HR
    iexact HS
  iintro HS
  iapply (send_step X K c 2 2 (by decide) (by decide) (dev6_to c) (off1_at c 2 (by decide)) rfl (off2_at c 2 (by decide)) rfl rfl) $$ [HS]
  · isplitr; · iexact HR
    iexact HS
  iintro HS
  rw [runs, wp_ret]; imodintro
  iapply Hk; iexact HS

/-- Part 4: transfer 3 starts and transfer 4 starts. -/
theorem part4 {Kt : (PUnit) → sProp 𝕄} (h0 h1 h2) (v5 v8 v9 v13 v23 v97 : BitVec 32) :
    iprop(records X K ∗ levAts L lv ∗ state X c 3 ∗ (∀ r, state X c 5 -∗ Kt r))
      ⊢ runs c (k0_part4_skel xM h0 oM h1 rM h2 cc0_scratch1 cc0_scratch2 c v5 v8 v9 v13 v23 v97) Kt := by
  unfold k0_part4_skel
  simp only [Prog.lift, Prog.bind_op, Prog.bind_ret, Prog.pure_eq_ret]
  iintro ⟨#HR, #HL, HS, Hk⟩
  iapply (send_step X K c 3 3 (by decide) (by decide) (dev7_to c) (off1_at c 3 (by decide)) rfl (off2_at c 3 (by decide)) rfl rfl) $$ [HS]
  · isplitr; · iexact HR
    iexact HS
  iintro HS
  iapply (send_step X K c 4 4 (by decide) (by decide) (dev8_to c) (off3_at c) rfl (off4_at c) rfl rfl) $$ [HS]
  · isplitr; · iexact HR
    iexact HS
  iintro HS
  rw [runs, wp_ret]; imodintro
  iapply Hk; iexact HS

/-- Part 5: transfer 0 lands, transfer 5 starts and transfer 9 starts. -/
theorem part5 {Kt : (BitVec 32) → sProp 𝕄} (h0 h1 h2) (v2 v5 v8 v9 v10 v11 : BitVec 32) :
    iprop(records X K ∗ levAts L lv ∗ state X c 5 ∗ (∀ r, state X c 8 -∗ Kt r))
      ⊢ runs c (k0_part5_skel xM h0 oM h1 rM h2 cc0_scratch1 cc0_scratch2 c v2 v5 v8 v9 v10 v11) Kt := by
  unfold k0_part5_skel
  simp only [Prog.lift, Prog.bind_op, Prog.bind_ret, Prog.pure_eq_ret]
  iintro ⟨#HR, #HL, HS, Hk⟩
  iapply (piece_step X K c 5 0 (by decide) (by decide) rfl rfl) $$ [HS]
  · isplitr; · iexact HR
    isplitr; · iexact HL
    iexact HS
  iintro HS
  iapply (pass_step X K c 6 5 (by decide) (by decide) (dev9_to c) (off1_at c 5 (by decide)) rfl rfl rfl) $$ [HS]
  · isplitr; · iexact HR
    iexact HS
  iintro HS
  iapply (pass_step X K c 7 9 (by decide) (by decide) (dev10_to c) (off1_at c 9 (by decide)) rfl rfl rfl) $$ [HS]
  · isplitr; · iexact HR
    iexact HS
  iintro HS
  rw [runs, wp_ret]; imodintro
  iapply Hk; iexact HS

/-- Part 6: transfer 1 lands and transfer 6 starts. -/
theorem part6 {Kt : (PUnit) → sProp 𝕄} (h0 h1 h2) (v2 v5 v8 v9 v10 v11 v13 c128_i32_108 : BitVec 32) :
    iprop(records X K ∗ levAts L lv ∗ state X c 8 ∗ (∀ r, state X c 10 -∗ Kt r))
      ⊢ runs c (k0_part6_skel xM h0 oM h1 rM h2 cc0_scratch1 cc0_scratch2 c v2 v5 v8 v9 v10 v11 v13 c128_i32_108) Kt := by
  unfold k0_part6_skel
  simp only [Prog.lift, Prog.bind_op, Prog.bind_ret, Prog.pure_eq_ret]
  iintro ⟨#HR, #HL, HS, Hk⟩
  iapply (piece_step X K c 8 1 (by decide) (by decide) rfl rfl) $$ [HS]
  · isplitr; · iexact HR
    isplitr; · iexact HL
    iexact HS
  iintro HS
  iapply (pass_step X K c 9 6 (by decide) (by decide) (dev11_to c) (off1_at c 6 (by decide)) rfl rfl rfl) $$ [HS]
  · isplitr; · iexact HR
    iexact HS
  iintro HS
  rw [runs, wp_ret]; imodintro
  iapply Hk; iexact HS

/-- Part 7: transfer 10 starts, transfer 2 lands and transfer 7 starts. -/
theorem part7 {Kt : (PUnit) → sProp 𝕄} (h0 h1 h2) (v2 v5 v8 v9 v10 v11 v13 : BitVec 32) :
    iprop(records X K ∗ levAts L lv ∗ state X c 10 ∗ (∀ r, state X c 13 -∗ Kt r))
      ⊢ runs c (k0_part7_skel xM h0 oM h1 rM h2 cc0_scratch1 cc0_scratch2 c v2 v5 v8 v9 v10 v11 v13) Kt := by
  unfold k0_part7_skel
  simp only [Prog.lift, Prog.bind_op, Prog.bind_ret, Prog.pure_eq_ret]
  iintro ⟨#HR, #HL, HS, Hk⟩
  iapply (pass_step X K c 10 10 (by decide) (by decide) (dev12_to c) (off1_at c 10 (by decide)) rfl rfl rfl) $$ [HS]
  · isplitr; · iexact HR
    iexact HS
  iintro HS
  iapply (piece_step X K c 11 2 (by decide) (by decide) rfl rfl) $$ [HS]
  · isplitr; · iexact HR
    isplitr; · iexact HL
    iexact HS
  iintro HS
  iapply (pass_step X K c 12 7 (by decide) (by decide) (dev13_to c) (off1_at c 7 (by decide)) rfl rfl rfl) $$ [HS]
  · isplitr; · iexact HR
    iexact HS
  iintro HS
  rw [runs, wp_ret]; imodintro
  iapply Hk; iexact HS

/-- Part 8: transfer 11 starts, transfer 3 lands and transfer 8 starts. -/
theorem part8 {Kt : (Σ' (v262 : BitVec 32), BitVec 32) → sProp 𝕄} (h0 h1 h2) (v2 v5 v8 v9 v10 v13 : BitVec 32) :
    iprop(records X K ∗ levAts L lv ∗ state X c 13 ∗ (∀ r, state X c 16 -∗ Kt r))
      ⊢ runs c (k0_part8_skel xM h0 oM h1 rM h2 cc0_scratch1 cc0_scratch2 c v2 v5 v8 v9 v10 v13) Kt := by
  unfold k0_part8_skel
  simp only [Prog.lift, Prog.bind_op, Prog.bind_ret, Prog.pure_eq_ret]
  iintro ⟨#HR, #HL, HS, Hk⟩
  iapply (pass_step X K c 13 11 (by decide) (by decide) (dev14_to c) (off1_at c 11 (by decide)) rfl rfl rfl) $$ [HS]
  · isplitr; · iexact HR
    iexact HS
  iintro HS
  iapply (piece_step X K c 14 3 (by decide) (by decide) rfl rfl) $$ [HS]
  · isplitr; · iexact HR
    isplitr; · iexact HL
    iexact HS
  iintro HS
  iapply (pass_step X K c 15 8 (by decide) (by decide) (dev15_to c) (off1_at c 8 (by decide)) rfl rfl rfl) $$ [HS]
  · isplitr; · iexact HR
    iexact HS
  iintro HS
  rw [runs, wp_ret]; imodintro
  iapply Hk; iexact HS

end Cert.KRun

end
-- ==== Proof.Parts2.lean ====
/-
# The kernel's parts: transfers land and end

The parts from the last transfer that starts to the waits at the end.
-/
module

public import proofs.«01_k».proof.Proof.Parts1

@[expose] public section

set_option maxRecDepth 8000

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inputs F) (K : Dev nD × CI → ℕ) (c : Dev nD)

/-- Part 9: transfer 12 starts, transfer 5 lands and transfer 6 lands. -/
theorem part9 {Kt : (PUnit) → sProp 𝕄} (h0 h1 h2) (v2 v5 v8 v10 v11 v16 v262 c2_i32_176 : BitVec 32) :
    iprop(records X K ∗ levAts L lv ∗ state X c 16 ∗ (∀ r, state X c 19 -∗ Kt r))
      ⊢ runs c (k0_part9_skel xM h0 oM h1 rM h2 cc0_scratch1 cc0_scratch2 c v2 v5 v8 v10 v11 v16 v262 c2_i32_176) Kt := by
  unfold k0_part9_skel
  simp only [Prog.lift, Prog.bind_op, Prog.bind_ret, Prog.pure_eq_ret]
  iintro ⟨#HR, #HL, HS, Hk⟩
  iapply (pass_step X K c 16 12 (by decide) (by decide) (dev16_to c) (off1_at c 12 (by decide)) rfl rfl rfl) $$ [HS]
  · isplitr; · iexact HR
    iexact HS
  iintro HS
  iapply (land_step X K c 17 5 (by decide) (by decide) (by decide) rfl rfl) $$ [HS]
  · isplitr; · iexact HR
    isplitr; · iexact HL
    iexact HS
  iintro HS
  iapply (land_step X K c 18 6 (by decide) (by decide) (by decide) rfl rfl) $$ [HS]
  · isplitr; · iexact HR
    isplitr; · iexact HL
    iexact HS
  iintro HS
  rw [runs, wp_ret]; imodintro
  iapply Hk; iexact HS

/-- Part 10: transfer 7 lands and transfer 8 lands. -/
theorem part10 {Kt : (Σ' (v326 : BitVec 32), BitVec 32) → sProp 𝕄} (h0 h1 h2) (v2 v8 v10 v16 v19 : BitVec 32) :
    iprop(records X K ∗ levAts L lv ∗ state X c 19 ∗ (∀ r, state X c 21 -∗ Kt r))
      ⊢ runs c (k0_part10_skel xM h0 oM h1 rM h2 cc0_scratch1 cc0_scratch2 c v2 v8 v10 v16 v19) Kt := by
  unfold k0_part10_skel
  simp only [Prog.lift, Prog.bind_op, Prog.bind_ret, Prog.pure_eq_ret]
  iintro ⟨#HR, #HL, HS, Hk⟩
  iapply (land_step X K c 19 7 (by decide) (by decide) (by decide) rfl rfl) $$ [HS]
  · isplitr; · iexact HR
    isplitr; · iexact HL
    iexact HS
  iintro HS
  iapply (land_step X K c 20 8 (by decide) (by decide) (by decide) rfl rfl) $$ [HS]
  · isplitr; · iexact HR
    isplitr; · iexact HL
    iexact HS
  iintro HS
  rw [runs, wp_ret]; imodintro
  iapply Hk; iexact HS

/-- Part 11: transfer 9 lands, transfer 10 lands and transfer 11 lands. -/
theorem part11 {Kt : (PUnit) → sProp 𝕄} (h0 h1 h2) (v2 v8 v10 v19 v326 c1_i32_227 : BitVec 32) :
    iprop(records X K ∗ levAts L lv ∗ state X c 21 ∗ (∀ r, state X c 24 -∗ Kt r))
      ⊢ runs c (k0_part11_skel xM h0 oM h1 rM h2 cc0_scratch1 cc0_scratch2 c v2 v8 v10 v19 v326 c1_i32_227) Kt := by
  unfold k0_part11_skel
  simp only [Prog.lift, Prog.bind_op, Prog.bind_ret, Prog.pure_eq_ret]
  iintro ⟨#HR, #HL, HS, Hk⟩
  iapply (land_step X K c 21 9 (by decide) (by decide) (by decide) rfl rfl) $$ [HS]
  · isplitr; · iexact HR
    isplitr; · iexact HL
    iexact HS
  iintro HS
  iapply (land_step X K c 22 10 (by decide) (by decide) (by decide) rfl rfl) $$ [HS]
  · isplitr; · iexact HR
    isplitr; · iexact HL
    iexact HS
  iintro HS
  iapply (land_step X K c 23 11 (by decide) (by decide) (by decide) rfl rfl) $$ [HS]
  · isplitr; · iexact HR
    isplitr; · iexact HL
    iexact HS
  iintro HS
  rw [runs, wp_ret]; imodintro
  iapply Hk; iexact HS

/-- Part 13: transfer 0 ends, transfer 1 ends, transfer 2 ends, transfer 3 ends, transfer 4 ends and transfer 5 ends. -/
theorem part13 {Kt : (PUnit) → sProp 𝕄} (h0 h1 h2) :
    iprop(records X K ∗ levAts L lv ∗ state X c 26 ∗ (∀ r, state X c 32 -∗ Kt r))
      ⊢ runs c (k0_part13_skel xM h0 oM h1 rM h2 cc0_scratch1 cc0_scratch2 c) Kt := by
  unfold k0_part13_skel
  simp only [Prog.lift, Prog.bind_op, Prog.bind_ret, Prog.pure_eq_ret]
  iintro ⟨#HR, #HL, HS, Hk⟩
  iapply (end_step X K c 26 0 (by decide) rfl rfl) $$ [HS]
  · isplitr; · iexact HR
    isplitr; · iexact HL
    iexact HS
  iintro HS
  iapply (end_step X K c 27 1 (by decide) rfl rfl) $$ [HS]
  · isplitr; · iexact HR
    isplitr; · iexact HL
    iexact HS
  iintro HS
  iapply (end_step X K c 28 2 (by decide) rfl rfl) $$ [HS]
  · isplitr; · iexact HR
    isplitr; · iexact HL
    iexact HS
  iintro HS
  iapply (end_step X K c 29 3 (by decide) rfl rfl) $$ [HS]
  · isplitr; · iexact HR
    isplitr; · iexact HL
    iexact HS
  iintro HS
  iapply (end_step X K c 30 4 (by decide) rfl rfl) $$ [HS]
  · isplitr; · iexact HR
    isplitr; · iexact HL
    iexact HS
  iintro HS
  iapply (end_step X K c 31 5 (by decide) rfl rfl) $$ [HS]
  · isplitr; · iexact HR
    isplitr; · iexact HL
    iexact HS
  iintro HS
  rw [runs, wp_ret]; imodintro
  iapply Hk; iexact HS

/-- Part 14: transfer 9 ends, transfer 6 ends, transfer 10 ends, transfer 7 ends, transfer 11 ends and transfer 8 ends. -/
theorem part14 {Kt : (PUnit) → sProp 𝕄} (h0 h1 h2) :
    iprop(records X K ∗ levAts L lv ∗ state X c 32 ∗ (∀ r, state X c 38 -∗ Kt r))
      ⊢ runs c (k0_part14_skel xM h0 oM h1 rM h2 cc0_scratch1 cc0_scratch2 c) Kt := by
  unfold k0_part14_skel
  simp only [Prog.lift, Prog.bind_op, Prog.bind_ret, Prog.pure_eq_ret]
  iintro ⟨#HR, #HL, HS, Hk⟩
  iapply (end_step X K c 32 9 (by decide) rfl rfl) $$ [HS]
  · isplitr; · iexact HR
    isplitr; · iexact HL
    iexact HS
  iintro HS
  iapply (end_step X K c 33 6 (by decide) rfl rfl) $$ [HS]
  · isplitr; · iexact HR
    isplitr; · iexact HL
    iexact HS
  iintro HS
  iapply (end_step X K c 34 10 (by decide) rfl rfl) $$ [HS]
  · isplitr; · iexact HR
    isplitr; · iexact HL
    iexact HS
  iintro HS
  iapply (end_step X K c 35 7 (by decide) rfl rfl) $$ [HS]
  · isplitr; · iexact HR
    isplitr; · iexact HL
    iexact HS
  iintro HS
  iapply (end_step X K c 36 11 (by decide) rfl rfl) $$ [HS]
  · isplitr; · iexact HR
    isplitr; · iexact HL
    iexact HS
  iintro HS
  iapply (end_step X K c 37 8 (by decide) rfl rfl) $$ [HS]
  · isplitr; · iexact HR
    isplitr; · iexact HL
    iexact HS
  iintro HS
  rw [runs, wp_ret]; imodintro
  iapply Hk; iexact HS

end Cert.KRun

end
-- ==== Proof.Body.lean ====
/-
# The kernel's body

The parts with the barrier and with the sum, and the whole body on one device: from what the device holds at the
launch to both its input and its receive buffer whole again, the sum in the output, every counter at zero and nothing
owed.
-/
module

public import proofs.«01_k».proof.Proof.Parts2

@[expose] public section

set_option maxRecDepth 8000

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inputs F) (K : Dev nD × CI → ℕ) (c : Dev nD)

/-! ## The barrier -/

/-- What a device's barrier takes: its own cell's position and credit, and the tokens of its three signals. -/
def barGh : sProp 𝕄 :=
  iprop(atPos ER (barCell c) 0 ∅ 0 ∗ cred (tallyAt (barCell c) () 3)
    ∗ dutyTok ER (barCell (nb 0 c)) 0 0 ∗ dutyTok ER (barCell (nb 1 c)) 0 1 ∗ dutyTok ER (barCell (nb 2 c)) 0 2)

/-- What a device holds for all its transfers before any has started, but for the room. -/
def allGh : sProp 𝕄 :=
  iprop((bigSep Finset.univ fun i => sendGh i c) ∗ (bigSep Finset.univ fun i => recvGh i c)
    ∗ bigSep inputs fun i => sendPay X i c)

/-- The second and the third axis. -/
abbrev upper : Finset (Fin 3) := {1, 2}

/-- The third axis. -/
abbrev third : Finset (Fin 3) := {2}

/-- Part 2: two signals, the wait for all three neighbours, and transfer 0 starts. -/
theorem part2 {β : Type} {k : (Σ' (v45 : BitVec 32), BitVec 32) → Prog (TpuEff nD τ sig (Elt F) Λ₀ .tc) β} {Kt : β → sProp 𝕄} (h0 h1 h2) (v2 v5 v8 v9 v10 v11 v13 v32 : BitVec 32) :
    iprop(records X K ∗ levAts L lv ∗ ow c upper Finset.univ
        ∗ (atPos ER (barCell c) 0 ∅ 0 ∗ cred (tallyAt (barCell c) () 3))
        ∗ (dutyTok ER (barCell (nb 1 c)) 0 1 ∗ barPay 1 (nb 1 c))
        ∗ (dutyTok ER (barCell (nb 2 c)) 0 2 ∗ barPay 2 (nb 2 c))
        ∗ allGh X c ∗ (∀ r, (semVal (barCell c) 0 ∗ state X c 1) -∗ runs c (k r) Kt))
      ⊢ runs c (k0_part2_skel xM h0 oM h1 rM h2 cc0_scratch1 cc0_scratch2 c v2 v5 v8 v9 v10 v11 v13
          (SemArray.scalar (sig.barrier 0 rfl)) v32 >>= k) Kt := by
  unfold runs; rw [wp_bind]
  unfold k0_part2_skel allGh
  simp only [semSignalWord, semWaitWord, Prog.lift, Prog.bind_op, Prog.bind_ret, Prog.pure_eq_ret]
  iintro ⟨#HR, #HL, HO, ⟨Hat, Hc⟩, ⟨Ht1, Hp1⟩, ⟨Ht2, Hp2⟩, ⟨Hs, Hr, Hx⟩, Hk⟩
  iapply (signal_rule X K c 1 (dev2_to c) (A := upper) (A' := third) Finset.univ (by decide) (by decide) (by decide)) $$ [HO Ht1 Hp1]
  · isplitr; · iexact HR
    isplitl [Ht1]; · iexact Ht1
    isplitl [Hp1] <;> iassumption
  iintro HO
  iapply (signal_rule X K c 2 (dev3_to c) (A := third) (A' := ∅) Finset.univ (by decide) (by decide) (by decide)) $$ [HO Ht2 Hp2]
  · isplitr; · iexact HR
    isplitl [Ht2]; · iexact Ht2
    isplitl [Hp2] <;> iassumption
  iintro HO
  iapply (barrier_rule X K c Finset.univ (by decide)) $$ [HO Hat Hc]
  · isplitr; · iexact HR
    isplitr; · iexact HL
    isplitl [Hat]; · iexact Hat
    isplitl [Hc] <;> iassumption
  rw [rooms]
  iintro ⟨Hz, Hroom, HO⟩
  ihave HS := (state_zero X c) $$ [HO Hs Hroom Hr Hx]
  · isplitl [HO]; · iexact HO
    isplitl [Hs]; · iexact Hs
    isplitl [Hroom]; · iexact Hroom
    isplitl [Hr] <;> iassumption
  iapply (send_step X K c 0 0 (by decide) (by decide) (dev4_to c) (off1_at c 0 (by decide)) rfl (off2_at c 0 (by decide)) rfl rfl) $$ [HS]
  · isplitr; · iexact HR
    iexact HS
  iintro HS
  rw [runs, wp_ret]; imodintro
  iapply Hk
  isplitl [Hz] <;> iassumption

/-! ## The sum -/

/-- The half of the input the device keeps. -/
def kept_half : S1x512x512.Idx → Elt F .f32 :=
  (xM : Memref sig .tc .vmem S1x512x1024 .f32).view.readAt (Elt F)
    (Rect.unit (s := S1x512x1024) (k0_off7 c) S1x512x512.size (k0_off7_inb c)).toLoadRect (X c)

/-- What device `c` stores: the half of its input it keeps, and what landed. -/
def outv : S512x512.Idx → Elt F .f32 := k0_pay1 (kept_half X c) (landed X c)

/-- The offset of an access to a whole array is zero on each axis. -/
theorem zero_off : (![0, 0] : Fin 2 → ℕ) = fun _ => 0 := by
  funext a; fin_cases a <;> rfl

/-- Reading the whole receive buffer. -/
theorem read_all (f : S512x512.Idx → Elt F .f32) : (rM : Memref sig .tc .vmem S512x512 .f32).view.readAt (Elt F)
    (Rect.unit (s := S512x512) ![0, 0] S512x512.size inb_S512x512_S512x512_0_0).toLoadRect f = f :=
  Memref.readAt_unit_zero (Elt F) cc0_scratch0 zero_off _ f

/-- Writing the whole output. -/
theorem write_all (f w : S512x512.Idx → Elt F .f32) : ((oM : Memref sig .tc .vmem S512x512 .f32).access
    (Rect.unit (s := S512x512) ![0, 0] S512x512.size inb_S512x512_S512x512_0_0) : View sig .tc _ _ _).write (Elt F) f w Finset.univ = w :=
  Memref.write_access_unit_zero_univ (Elt F) cc0_stg1_0 zero_off _ f w

/-- Part 12: transfers 12 and 4 land, and the sum is stored. -/
theorem part12 {β : Type} {k : PUnit → Prog (TpuEff nD τ sig (Elt F) Λ₀ .tc) β} {Kt : β → sProp 𝕄} (h0 h1 h2) (v2 v5 v8 v9 v10 v23 v45 : BitVec 32) (g : Buf (Elt F) (oloc c)) :
    iprop(records X K ∗ levAts L lv ∗ state X c 24
        ∗ (xloc c ↦[Finset.univ]{fullShare.left} X c) ∗ (oloc c ↦[Finset.univ]{fullShare} g)
        ∗ (∀ r, (state X c 26 ∗ (xloc c ↦[Finset.univ]{fullShare.left} X c) ∗ (oloc c ↦[Finset.univ]{fullShare} outv X c)) -∗ runs c (k r) Kt))
      ⊢ runs c (k0_part12_skel xM h0 oM h1 rM h2 cc0_scratch1 cc0_scratch2 c v2 v5 v8 v9 v10 v23 v45 >>= k) Kt := by
  unfold runs; rw [wp_bind]
  unfold k0_part12_skel
  simp only [Prog.lift, Prog.bind_op, Prog.bind_ret, Prog.pure_eq_ret]
  iintro ⟨#HR, #HL, HS, Hx, Ho, Hk⟩
  iapply (land_step X K c 24 12 (by decide) (by decide) (by decide) rfl rfl) $$ [HS]
  · isplitr; · iexact HR
    isplitr; · iexact HL
    iexact HS
  iintro HS
  iapply (land_step X K c 25 4 (by decide) (by decide) (by decide) rfl rfl) $$ [HS]
  · isplitr; · iexact HR
    isplitr; · iexact HL
    iexact HS
  iintro HS
  ihave HS := (state_read X c) $$ HS
  icases HS with ⟨Hb, HS⟩
  rw [runs]
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM)
    (r := Rect.unit (s := S512x512) ![0, 0] S512x512.size inb_S512x512_S512x512_0_0) (Mk := Finset.univ) (Finset.subset_univ _)) $$ Ho; iintro Ho
  rw [wp_ret]; imodintro
  iapply Hk
  isplitl [HS Hb]; · iapply HS; iexact Hb
  isplitl [Hx]; · iexact Hx
  rw [write_all, read_all]; iexact Ho

/-! ## The whole body -/

/-- What device `c` holds when the body begins, its receive buffer holding `f` and its output `g`. -/
def before (f : Buf (Elt F) (rloc c)) (g : Buf (Elt F) (oloc c)) : sProp 𝕄 :=
  iprop(records X K ∗ levAts L lv ∗ barGh c ∗ (bigSep Finset.univ fun i => sendGh i c) ∗ (bigSep Finset.univ fun i => recvGh i c)
    ∗ ow c Finset.univ Finset.univ
    ∗ (rloc c ↦[Finset.univ]{fullShare} f) ∗ (xloc c ↦[Finset.univ]{fullShare} X c) ∗ (oloc c ↦[Finset.univ]{fullShare} g))

/-- What device `c` holds when the body has ended. -/
def afterwards : sProp 𝕄 :=
  iprop(semVal (barCell c) 0 ∗ (bigSep Finset.univ fun i => semVal (sendCell i c) 0) ∗ (bigSep Finset.univ fun i => semVal (recvCell i c) 0)
    ∗ ow c ∅ ∅
    ∗ (rloc c ↦[Finset.univ]{fullShare} landed X c) ∗ (xloc c ↦[Finset.univ]{fullShare} X c) ∗ (oloc c ↦[Finset.univ]{fullShare} outv X c))

section
variable {α β : Type} {p : Prog (TpuEff nD τ sig (Elt F) Λ₀ .tc) α} {k : α → Prog (TpuEff nD τ sig (Elt F) Λ₀ .tc) β}

/-- A part that takes the state from step `a` to step `b`, and what follows it. -/
theorem then_rule {Kt : β → sProp 𝕄} (a b : ℕ)
    (h : ∀ Kt' : α → sProp 𝕄, iprop(records X K ∗ levAts L lv ∗ state X c a ∗ (∀ r, state X c b -∗ Kt' r)) ⊢ runs c p Kt') :
    iprop(records X K ∗ levAts L lv ∗ state X c a ∗ (∀ r, state X c b -∗ runs c (k r) Kt)) ⊢ runs c (p >>= k) Kt := by
  unfold runs; rw [wp_bind]; exact h _
end

/-- The body on device `c`. -/
theorem body_run {Kt : PUnit → sProp 𝕄} (h0 h1 h2) (f : Buf (Elt F) (rloc c)) (g : Buf (Elt F) (oloc c)) :
    iprop(before X K c f g ∗ (afterwards X c -∗ Kt ⟨⟩))
      ⊢ runs c (cc0_body xM h0 oM h1 rM h2 cc0_scratch1 cc0_scratch2) Kt := by
  rw [cc0_body_eq_skeleton]
  unfold cc0_body_skel before barGh
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold k0_part1_skel
  simp only [semSignalWord, Prog.lift, Prog.bind_op, Prog.bind_ret, Prog.pure_eq_ret, wp_deviceId, runs]
  iintro ⟨⟨#HR, #HL, ⟨Hat, Hc, Ht0, Ht1, Ht2⟩, Hs, Hr, HO, Hb, Hx, Ho⟩, Hk⟩
  ihave Hb := (hand_out c f) $$ Hb
  icases Hb with ⟨Hp0, Hp1, Hp2⟩
  ihave Hx := (Entails.of_eq (x_parts X c)) $$ Hx
  icases Hx with ⟨Hx, Hin, Hxo⟩
  iapply (signal_rule X K c 0 (dev1_to c) (A := Finset.univ) (A' := upper) Finset.univ (by decide) (by decide) (by decide)) $$ [HO Ht0 Hp0]
  · isplitr; · iexact HR
    isplitl [Ht0]; · iexact Ht0
    isplitl [Hp0] <;> iassumption
  iintro HO
  iapply (part2 X K c h0 h1 h2) $$ [-]
  isplitr; · iexact HR
  isplitr; · iexact HL
  isplitl [HO]; · iexact HO
  isplitl [Hat Hc]; · isplitl [Hat] <;> iassumption
  isplitl [Ht1 Hp1]; · isplitl [Ht1] <;> iassumption
  isplitl [Ht2 Hp2]; · isplitl [Ht2] <;> iassumption
  isplitl [Hs Hr Hin]
  · unfold allGh
    isplitl [Hs]; · iexact Hs
    isplitl [Hr] <;> iassumption
  iintro %r2 ⟨Hz, HS⟩
  iapply (then_rule X K c 1 3 fun _ => part3 X K c h0 h1 h2 _ _ _ _ _) $$ [-]
  isplitr; · iexact HR
  isplitr; · iexact HL
  isplitl [HS]; · iexact HS
  iintro %r3 HS
  iapply (then_rule X K c 3 5 fun _ => part4 X K c h0 h1 h2 _ _ _ _ _ _) $$ [-]
  isplitr; · iexact HR
  isplitr; · iexact HL
  isplitl [HS]; · iexact HS
  iintro %r4 HS
  iapply (then_rule X K c 5 8 fun _ => part5 X K c h0 h1 h2 _ _ _ _ _ _) $$ [-]
  isplitr; · iexact HR
  isplitr; · iexact HL
  isplitl [HS]; · iexact HS
  iintro %r5 HS
  iapply (then_rule X K c 8 10 fun _ => part6 X K c h0 h1 h2 _ _ _ _ _ _ _ _) $$ [-]
  isplitr; · iexact HR
  isplitr; · iexact HL
  isplitl [HS]; · iexact HS
  iintro %r6 HS
  iapply (then_rule X K c 10 13 fun _ => part7 X K c h0 h1 h2 _ _ _ _ _ _ _) $$ [-]
  isplitr; · iexact HR
  isplitr; · iexact HL
  isplitl [HS]; · iexact HS
  iintro %r7 HS
  iapply (then_rule X K c 13 16 fun _ => part8 X K c h0 h1 h2 _ _ _ _ _ _) $$ [-]
  isplitr; · iexact HR
  isplitr; · iexact HL
  isplitl [HS]; · iexact HS
  iintro %r8 HS
  iapply (then_rule X K c 16 19 fun _ => part9 X K c h0 h1 h2 _ _ _ _ _ _ _ _) $$ [-]
  isplitr; · iexact HR
  isplitr; · iexact HL
  isplitl [HS]; · iexact HS
  iintro %r9 HS
  iapply (then_rule X K c 19 21 fun _ => part10 X K c h0 h1 h2 _ _ _ _ _) $$ [-]
  isplitr; · iexact HR
  isplitr; · iexact HL
  isplitl [HS]; · iexact HS
  iintro %r10 HS
  iapply (then_rule X K c 21 24 fun _ => part11 X K c h0 h1 h2 _ _ _ _ _ _) $$ [-]
  isplitr; · iexact HR
  isplitr; · iexact HL
  isplitl [HS]; · iexact HS
  iintro %r11 HS
  iapply (part12 X K c h0 h1 h2) $$ [-]
  isplitr; · iexact HR
  isplitr; · iexact HL
  isplitl [HS]; · iexact HS
  isplitl [Hx]; · iexact Hx
  isplitl [Ho]; · iexact Ho
  iintro %r12 ⟨HS, Hx, Ho⟩
  iapply (then_rule X K c 26 32 fun _ => part13 X K c h0 h1 h2) $$ [-]
  isplitr; · iexact HR
  isplitr; · iexact HL
  isplitl [HS]; · iexact HS
  iintro %r13 HS
  iapply (then_rule X K c 32 38 fun _ => part14 X K c h0 h1 h2) $$ [-]
  isplitr; · iexact HR
  isplitr; · iexact HL
  isplitl [HS]; · iexact HS
  iintro %r14 HS
  iapply (end_step X K c 38 12 (by decide) rfl rfl) $$ [HS]
  · isplitr; · iexact HR
    isplitr; · iexact HL
    iexact HS
  iintro HS
  rw [runs, wp_ret]; imodintro
  iapply Hk
  ihave HS := (state_last X c) $$ HS
  icases HS with ⟨HO, Hz1, Hz2, Hb, Hin⟩
  unfold afterwards
  isplitl [Hz]; · iexact Hz
  isplitl [Hz1]; · iexact Hz1
  isplitl [Hz2]; · iexact Hz2
  isplitl [HO]; · iexact HO
  isplitl [Hb]; · iexact Hb
  isplitr [Ho]
  · rw [x_parts]
    isplitl [Hx]; · iexact Hx
    isplitl [Hin] <;> iassumption
  iexact Ho

end Cert.KRun

end
-- ==== Proof.Ghost.lean ====
/-
# What the devices are given at launch

From the counters at zero and the launch's credits to what every device's body starts from: the invariants of all
cells, the positions of its own, the tokens of the duties it pays itself, and the credits it will wait on.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

set_option maxRecDepth 8000

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Inputs F)

/-! ## Cells and tokens -/

/-- The kernel's own semaphores: those of the transfers. -/
def osem : Fin 13 ⊕ Fin 13 → SemLoc sig := fun k => csem (.inr k)

/-- The transfers' semaphores are the kernel's own, all different, and none is a staging semaphore. -/
theorem ownSemFacts : Pipeline.OwnSemFacts cfg0.spec osem where
  isScoped := by decide
  inj := csem_inj.comp Sum.inr_injective
  disj := by decide

/-- Different cells, or cells of different devices, have different semaphores. -/
theorem cellAt_inj : Function.Injective (fun ck : Dev nD × CI => cellAt ck.1 ck.2) := by
  rintro ⟨c, k⟩ ⟨c', k'⟩ h
  have h1 : c = c' := congrArg (fun g : GSem nD τ sig => g.1.1) h
  have h2 : csem k = csem k' := congrArg Prod.snd h
  rw [h1, csem_inj h2]

/-- Every cell of every device. -/
def allCells : Finset (GSem nD τ sig) := Finset.univ.map ⟨fun ck : Dev nD × CI => cellAt ck.1 ck.2, cellAt_inj⟩

/-- The duties of a device's cells: one for each axis at the barrier, one at each other cell. -/
abbrev Duty : Type := Fin 3 ⊕ (Fin 13 ⊕ Fin 13)

/-- A duty's cell and its number there. -/
def dutyAt : Duty → CI × Fin 3
  | .inl a => (.inl (), a)
  | .inr k => (.inr k, 0)

/-- Different duties differ in their cell or their number. -/
theorem dutyAt_inj : Function.Injective dutyAt := by
  rintro (a | k) (b | l) h
  · exact congrArg Sum.inl (congrArg Prod.snd h)
  · exact nomatch (congrArg Prod.fst h : (Sum.inl () : CI) = .inr l)
  · exact nomatch (congrArg Prod.fst h : (Sum.inr k : CI) = .inl ())
  · exact congrArg Sum.inr (Sum.inr.inj (congrArg Prod.fst h : (Sum.inr k : CI) = .inr l))

/-- A duty's token: its cell, round and number. -/
abbrev tokAt (cd : Dev nD × Duty) : GSem nD τ sig × ℕ × Fin 3 := (cellAt cd.1 (dutyAt cd.2).1, 0, (dutyAt cd.2).2)

/-- Different duties have different tokens. -/
theorem tokAt_inj : Function.Injective (tokAt : Dev nD × Duty → GSem nD τ sig × ℕ × Fin 3) := by
  rintro ⟨c, d⟩ ⟨c', d'⟩ h
  have h1 := cellAt_inj (a₁ := (c, (dutyAt d).1)) (a₂ := (c', (dutyAt d').1)) (congrArg Prod.fst h)
  have h2 : (dutyAt d).2 = (dutyAt d').2 := congrArg (fun x => x.2.2) h
  have h3 : d = d' := dutyAt_inj (Prod.ext (congrArg Prod.snd h1) h2)
  rw [h3, show c = c' from congrArg Prod.fst h1]

/-- The tokens of all duties. -/
def allToks : Finset (GSem nD τ sig × ℕ × Fin 3) := Finset.univ.map ⟨tokAt, tokAt_inj⟩

/-- What the launch starts from. -/
def u₀ : UU := (initOf (Pipeline.cells cfgs cellOf_inj) (Pipeline.launchToks cfgs cellOf_inj), initOf allCells allToks)

/-- The tokens of a device's own cells. -/
def toks (c : Dev nD) : sProp 𝕄 :=
  iprop((bigSep Finset.univ fun a : Fin 3 => dutyTok ER (barCell c) 0 a)
    ∗ (bigSep Finset.univ fun i : Fin 13 => dutyTok ER (sendCell i c) 0 0)
    ∗ bigSep Finset.univ fun i : Fin 13 => dutyTok ER (recvCell i c) 0 0)

/-- What each device is first dealt: its own cells at round 0 and their tokens. -/
def G (c : Dev nD) : sProp 𝕄 :=
  iprop((bigSep Finset.univ fun k : CI => roundState ER (sched X) (cellAt c k) 0)
    ∗ (bigSep Finset.univ fun k : CI => iprop(atPos ER (cellAt c k) 0 ∅ 0 ∗ reached ER (cellAt c k) 0)) ∗ toks c)

omit [FloatOps F] in
/-- The initial element of the protocol makes what every device is first dealt. -/
theorem fund : BI.own (ER (initOf allCells allToks)) ⊢ (|==> bigSep Finset.univ (G X) : sProp 𝕄) := by
  have hX (Φ : GSem nD τ sig → sProp 𝕄) :
      bigSep allCells Φ = bigSep Finset.univ fun c : Dev nD => bigSep Finset.univ fun k : CI => Φ (cellAt c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro H
  imod (Rounds.fund ER (sched X) allCells allToks) $$ H with ⟨Hst, Hr, Hat, Htok⟩
  imodintro
  ihave Hst := (Entails.of_eq (hX fun g => roundState ER (sched X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Counters at zero -/

omit [FloatOps F] in
/-- The kernel's own counters at zero are those of the send cells and of the receive cells. -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell i c) 0) ∗ bigSep Finset.univ fun i => semVal (recvCell i c) 0) := by
  unfold Pipeline.ownSems0; rw [bigSep_univ_sum]; rfl

omit [FloatOps F] in
/-- The only other counter is the barrier cell's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the counters of a device's cells. -/
theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (cellAt c k) 0 : sProp 𝕄) := by
  rw [unscopedSems0_eq, bigSep_univ_sum, bigSep_univ_eq_bigSepL [()] (by decide) (by decide)]
  show _ ⊢ iprop(semVal (barCell c) 0 ∗ bigSep Finset.univ fun k => semVal (cellAt c (.inr k)) 0)
  iintro ⟨Ho, Hb⟩
  isplitl [Hb]; · iexact Hb
  unfold Pipeline.ownSems0 osem
  iexact Ho

/-! ## Allocation -/

/-- A device's cells, each under some name, with their positions and tokens. -/
def alloced (c : Dev nD) : sProp 𝕄 :=
  iprop((bigSep Finset.univ fun k : CI => iprop(∃ κ : ℕ, cellInv ER (sched X) κ (cellAt c k)))
    ∗ (bigSep Finset.univ fun k : CI => iprop(atPos ER (cellAt c k) 0 ∅ 0 ∗ reached ER (cellAt c k) 0)) ∗ toks c)

omit [FloatOps F] in
/-- A device's counters at zero and its cells at round 0 become invariants, each under some name. -/
theorem alloc_cells (c : Dev nD) :
    iprop((bigSep Finset.univ fun k : CI => semVal (cellAt c k) 0) ∗ bigSep Finset.univ fun k : CI => roundState ER (sched X) (cellAt c k) 0)
      ⊢ (|={Set.univ}=> bigSep Finset.univ fun k => iprop(∃ κ : ℕ, cellInv ER (sched X) κ (cellAt c k)) : sProp 𝕄) := by
  rw [← bigSep_sep']
  exact (bigSep_mono fun k _ => (Rounds.body_intro ER (sched X) (cellAt c k)).trans inv_alloc).trans (bigSep_fupd _ _)

omit [FloatOps F] in
/-- One device: from its counters at zero and what it was dealt, its cells are allocated. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> alloced X c := by
  unfold G alloced
  iintro ⟨Hos, Hus, Hst, Hat, Htok⟩
  ihave Hv := (sems0_all (F := F) c) $$ [Hos Hus]
  · isplitl [Hos] <;> iassumption
  imod (alloc_cells X c) $$ [Hv Hst] with Hinv
  · isplitl [Hv] <;> iassumption
  imodintro
  isplitl [Hinv]; · iexact Hinv
  isplitl [Hat] <;> iassumption

/-! ## Dealing the tokens -/

/-- The tokens of the duties a device pays: at its neighbours' barriers, its own send cells, its targets' receive cells. -/
def payToks (c : Dev nD) : sProp 𝕄 :=
  iprop((bigSep Finset.univ fun a : Fin 3 => dutyTok ER (barCell (nb a c)) 0 a)
    ∗ (bigSep Finset.univ fun i : Fin 13 => dutyTok ER (sendCell i c) 0 0)
    ∗ bigSep Finset.univ fun i : Fin 13 => dutyTok ER (recvCell i (tgt i c)) 0 0)

omit [FloatOps F] in
/-- One thing per device and index, each index's things moved along a permutation of the devices. -/
theorem move {I : Type} [Fintype I] [DecidableEq I] (e : I → Dev nD ≃ Dev nD) (Φ : I → Dev nD → sProp 𝕄) :
    (bigSep Finset.univ fun c : Dev nD => bigSep Finset.univ fun i => Φ i c)
      = bigSep Finset.univ fun c : Dev nD => bigSep Finset.univ fun i => Φ i (e i c) := by
  let mv : Dev nD × I ≃ Dev nD × I :=
    ⟨fun p => (e p.2 p.1, p.2), fun p => ((e p.2).symm p.1, p.2),
      fun p => Prod.ext ((e p.2).symm_apply_apply p.1) rfl, fun p => Prod.ext ((e p.2).apply_symm_apply p.1) rfl⟩
  rw [← bigSep_univ_prod (fun p : Dev nD × I => Φ p.2 p.1), ← bigSep_univ_prod (fun p : Dev nD × I => Φ p.2 (e p.2 p.1)),
    bigSep_univ_equiv mv]
  rfl

omit [FloatOps F] in
/-- The tokens of the cells of all devices are the tokens of the duties that all devices pay. -/
theorem deal_toks : (bigSep Finset.univ fun c : Dev nD => (toks c : sProp 𝕄)) = bigSep Finset.univ fun c : Dev nD => payToks c := by
  unfold toks payToks
  rw [bigSep_sep', bigSep_sep', bigSep_sep', bigSep_sep',
    move nbE (fun a c => (dutyTok ER (barCell c) 0 a : sProp 𝕄)),
    move tgtE (fun i c => (dutyTok ER (recvCell i c) 0 0 : sProp 𝕄))]
  rfl

/-! ## What each device ends up with -/

/-- A device's share: its cells' positions and the tokens of what it pays. -/
def share (c : Dev nD) : sProp 𝕄 :=
  iprop((bigSep Finset.univ fun k : CI => atPos ER (cellAt c k) 0 ∅ 0) ∗ payToks c)

/-- The share beside the invariants of all cells, at some names. -/
def G' (c : Dev nD) : sProp 𝕄 := iprop(∃ K, records X K ∗ share c)

omit [FloatOps F] in
/-- Records that hold once for all can be handed to every device beside its share. -/
theorem with_records {K : Dev nD × CI → ℕ} :
    iprop(records X K ∗ bigSep Finset.univ fun c : Dev nD => share (F := F) c) ⊢ bigSep Finset.univ (G' X) := by
  have h : ∀ c ∈ (Finset.univ : Finset (Dev nD)), iprop(records X K ∗ share c) ⊢ G' X c := fun c _ => by
    unfold G'; iintro H; iexists K; iexact H
  exact (sep_mono_left (BI.bigSep_of_persistent Finset.univ (records X K))).trans (by rw [← bigSep_sep']; exact bigSep_mono h)

omit [FloatOps F] in
/-- From all devices' allocated cells, to every device's share beside the invariants of all cells. -/
theorem regroup : (bigSep Finset.univ fun c : Dev nD => alloced X c) ⊢ bigSep Finset.univ (G' X) := by
  unfold alloced
  rw [bigSep_sep', bigSep_sep', deal_toks,
    ← bigSep_univ_prod (fun ck : Dev nD × CI => iprop(∃ κ : ℕ, cellInv ER (sched X) κ (cellAt ck.1 ck.2))),
    bigSep_congr (s := Finset.univ) (fun (c : Dev nD) _ => bigSep_sep' Finset.univ
      (fun k : CI => (atPos ER (cellAt c k) 0 ∅ 0 : sProp 𝕄)) (fun k => reached ER (cellAt c k) 0)),
    bigSep_sep', ← bigSep_univ_prod (fun ck : Dev nD × CI => (reached ER (cellAt ck.1 ck.2) 0 : sProp 𝕄))]
  iintro ⟨HI, ⟨Hat, HR⟩, Htok⟩
  ihave HK := (BI.bigSep_exists_pi Finset.univ (fun (ck : Dev nD × CI) (κ : ℕ) =>
    (cellInv ER (sched X) κ (cellAt ck.1 ck.2) : sProp 𝕄))) $$ HI
  icases HK with ⟨%K, HI⟩
  iapply (with_records X (K := K))
  isplitl [HI HR]
  · unfold records; isplitl [HI] <;> iassumption
  unfold share; rw [bigSep_sep']
  isplitl [Hat] <;> iassumption

omit [FloatOps F] in
/-- From all counters at zero and what was dealt, to every device's share. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## Credits -/

omit [FloatOps F] in
/-- Three credits of one unit at a barrier cell are one credit of three. -/
theorem three_units (c : Dev nD) :
    (bigSep Finset.univ fun a : Fin 3 => (cred (tallyAt (barCell c) () 1) : sProp 𝕄)) ⊢ cred (tallyAt (barCell c) () 3) := by
  rw [bigSep_univ_eq_bigSepL [0, 1, 2] (by decide) (by decide),
    show (tallyAt (barCell c) () 3 : CellTallies nD τ sig Unit) = tallyAt (barCell c) () 1 + (tallyAt (barCell c) () 1 + tallyAt (barCell c) () 1) from by
      rw [tallyAt_add, tallyAt_add]]
  show iprop(cred _ ∗ cred _ ∗ cred _) ⊢ _
  iintro ⟨H1, H2, H3⟩
  iapply (cred_add _ _).2
  isplitl [H1]; · iexact H1
  iapply (cred_add _ _).2
  isplitl [H2] <;> iassumption

omit [FloatOps F] in
/-- What all devices owe at launch is, to each, what it will wait for. -/
theorem creds (c : Dev nD) : (Pipeline.launchCred O₀ c : sProp 𝕄)
    ⊢ iprop(cred (tallyAt (barCell c) () 3) ∗ bigSep Finset.univ fun i => cred (tallyAt (recvCell i c) () (N i))) := by
  have h : (O₀ : Dev nD → CellTallies nD τ sig Unit)
      = fun d => (∑ i : Fin 13, (fun (i : Fin 13) d => tallyAt (recvCell i (tgt i d)) () (N i)) i d)
        + ∑ a : Fin 3, (fun (a : Fin 3) d => tallyAt (barCell (nb a d)) () 1) a d := rfl
  have hr : (bigSep Finset.univ fun i : Fin 13 => (Pipeline.launchCred (fun d => tallyAt (recvCell i (tgt i d)) () (N i)) c : sProp 𝕄))
      ⊢ bigSep Finset.univ fun i => cred (tallyAt (recvCell i c) () (N i)) :=
    bigSep_mono fun i _ => Pipeline.launchCred_tallyAt (.dma (recvS i)) (tgt i) (tgt i) (tgt_tgt i) (tgt_tgt i) () (N i) c
  have hb : (bigSep Finset.univ fun a : Fin 3 => (Pipeline.launchCred (fun d => tallyAt (barCell (nb a d)) () 1) c : sProp 𝕄))
      ⊢ bigSep Finset.univ fun a : Fin 3 => cred (tallyAt (barCell c) () 1) :=
    bigSep_mono fun a _ => Pipeline.launchCred_tallyAt (.reg barS) (nb a) (nb a) (nb_nb a) (nb_nb a) () 1 c
  rw [h, Pipeline.launchCred_add, Pipeline.launchCred_sum, Pipeline.launchCred_sum]
  iintro ⟨Hr, Hb⟩
  isplitl [Hb]
  · iapply (three_units (F := F) c); iapply hb; iexact Hb
  iapply hr; iexact Hr

end Cert.KRun

end
-- ==== Proof.Run.lean ====
/-
# The run

The launch assembled: on all devices, from any memory with the counters at zero, every fair execution of the program
ends, with the sum in each device's result, the input as it was and every counter at zero.
-/
module

public import proofs.«01_k».proof.Proof.Ghost
public import Idealize.ShloMosaic.Lib.Pipeline.CollectiveSegs
public import Idealize.ShloMosaic.Lib.Tactic

@[expose] public section

set_option maxRecDepth 8000

noncomputable section

namespace Cert.KRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (l : Loc nD τ sig) → Buf (Elt F) l) (ρ : Dev nD → PrngReg)

/-! ## The pipeline's data -/

/-- The memory at the start, every counter at zero. -/
def s₀ : MemSt nD τ sig (Elt F) := ⟨m, fun _ => 0, ρ⟩

/-- What the devices' staged inputs hold: their blocks of the array. -/
def xs : Inputs F := fun c => (win0_0.blk (0 : Fin 1)).view.read (Elt F) ((s₀ m ρ).mem ((c : Thread nD τ).loc main_arg0))

/-- What a device's body starts from, but for its buffers. -/
def start (c : Dev nD) : sProp 𝕄 :=
  iprop(∃ K, records (xs m ρ) K ∗ levAts L lv ∗ barGh c ∗ (bigSep Finset.univ fun i => sendGh i c) ∗ bigSep Finset.univ fun i => recvGh i c)

/-- Before the body: that, and the receive buffer at any contents. -/
def Φ₀ (c : Dev nD) : sProp 𝕄 := iprop(start m ρ c ∗ ∃ f, rloc c ↦[Finset.univ]{fullShare} f)

/-- After the body: every counter of the device's cells at zero, and the receive buffer. -/
def Φ₁ (c : Dev nD) : sProp 𝕄 :=
  iprop(semVal (barCell c) 0 ∗ (bigSep Finset.univ fun i => semVal (sendCell i c) 0) ∗ (bigSep Finset.univ fun i => semVal (recvCell i c) 0)
    ∗ (rloc c ↦[Finset.univ]{fullShare} landed (xs m ρ) c))

/-- The launch's data: the arrays, what the body leaves in each window, and what a device holds and owes before and
    after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outv (xs m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The input is fetched. -/
theorem fetch_in (t : Fin cfg0.N) : (cfg0.win (0 : Fin 2)).fetch t = true := by rw [fin_N0 t]; rfl

omit [FloatOps F] in
/-- To own a whole buffer at some value is to hold it at that contents. -/
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-! ## The body, as the launch asks for it -/

/-- A staging buffer at given contents. -/
abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

/-- What the launch gives the body. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the launch wants back of the body. -/
def bodyPost (c : Dev nD) : sProp 𝕄 :=
  iprop(Φ₁ m ρ c ∗ (dats m ρ 0 c).owesAt () t0_0.succ ∗ stg c cc0_stg0_0 (xs m ρ c) ∗ stg c cc0_stg1_0 (outv (xs m ρ) c))

/-- The body's run, between those two. -/
theorem body_at (c : Dev nD) : bodyPre m ρ c ⊢ runs c (cc0_body (Memref.whole cc0_stg0_0) (Memref.isWhole_whole _)
    (Memref.whole cc0_stg1_0) (Memref.isWhole_whole _) (Memref.whole cc0_scratch0) (Memref.isWhole_whole _) cc0_scratch1 cc0_scratch2)
    (fun _ => bodyPost m ρ c) := by
  unfold bodyPre Φ₀ start
  iintro ⟨⟨⟨%K, HR, HL, Hbar, Hs, Hr⟩, ⟨%f, Hf⟩⟩, Ho, ⟨%d0, %g0, %hg0, Hx⟩, ⟨%d1, %g1, %hg1, Hout⟩⟩
  have hx : g0 = xs m ρ c := by rw [hg0]; unfold Dat.before; rw [if_pos (fetch_in t0_0)]; rfl
  subst hx
  unfold Dat.owesAt Pipeline.owesWithin
  icases Ho with ⟨%W, %hW, HO⟩
  iapply (body_run (xs m ρ) K c (Memref.isWhole_whole _) (Memref.isWhole_whole _) (Memref.isWhole_whole _) f g1)
  unfold before afterwards ow
  isplitl [HR HL Hbar Hs Hr HO Hf Hx Hout]
  · isplitl [HR]; · iexact HR
    isplitl [HL]; · iexact HL
    isplitl [Hbar]; · iexact Hbar
    isplitl [Hs]; · iexact Hs
    isplitl [Hr]; · iexact Hr
    isplitl [HO]; · iexists W; iexact HO
    isplitl [Hf]; · iexact Hf
    isplitl [Hx] <;> iassumption
  iintro ⟨Hb, Hs, Hr, ⟨%W', HO⟩, Hf, Hx, Hout⟩
  unfold bodyPost Φ₁ Dat.owesAt Pipeline.owesWithin
  rw [show (dats m ρ 0 c).owed t0_0.succ = 0 from rfl, O_none]
  isplitl [Hb Hs Hr Hf]
  · isplitl [Hb]; · iexact Hb
    isplitl [Hs]; · iexact Hs
    isplitl [Hr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The same, as the launch states it. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_at m ρ c

/-! ## Entering and leaving -/

/-- Every window is held whole. -/
theorem share_eq (c : Dev nD) (w : Fin cfg0.W) : (dats m ρ 0 c).share w = fullShare := by unfold Dat.share; split <;> rfl

omit [FloatOps F] in
/-- What a device has at launch holds what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m ρ) c)
      ⊢ |={Set.univ}=> iprop(start m ρ c ∗ emp) := by
  have h3 (Φ : Fin 3 → sProp 𝕄) : bigSep Finset.univ Φ = iprop(Φ 0 ∗ Φ 1 ∗ Φ 2) :=
    bigSep_univ_eq_bigSepL [0, 1, 2] (by decide) (by decide) Φ
  have hc (Φ : CI → sProp 𝕄) : bigSep Finset.univ Φ
      = iprop(Φ (.inl ()) ∗ (bigSep Finset.univ fun i => Φ (.inr (.inl i))) ∗ bigSep Finset.univ fun i => Φ (.inr (.inr i))) := by
    rw [bigSep_univ_sum, bigSep_univ_sum, bigSep_univ_eq_bigSepL [()] (by decide) (by decide)]; rfl
  unfold G' share payToks start barGh sendGh recvGh
  rw [h3]
  simp only [hc]
  simp only [bigSep_sep']
  iintro ⟨-, HL, Hcr, -, ⟨%K, HR, ⟨HaB, HaS, HaV⟩, HtB, HtS, HtV⟩⟩
  ihave Hc := (creds (F := F) c) $$ Hcr
  icases Hc with ⟨HcB, HcV⟩
  imodintro
  isplitl
  · iexists K
    isplitl [HR]; · iexact HR
    isplitl [HL]; · iexact HL
    isplitl [HaB HcB HtB]
    · isplitl [HaB]; · iexact HaB
      isplitl [HcB]; · iexact HcB
      iexact HtB
    isplitl [HaS HtS HtV]
    · isplitl [HaS]; · iexact HaS
      isplitl [HtS]; · iexact HtS
      iexact HtV
    isplitl [HaV]; · iexact HaV
    iexact HcV
  · iempintro

/-- With its receive buffer it is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the body leaves gives all counters at zero and the receive buffer back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨HB, HS, HV, Hr⟩
  isplitl [HB]; · iexact HB
  isplitl [HS HV]
  · isplitl [HS] <;> iassumption
  iexists (landed (xs m ρ) c); iexact Hr

omit [FloatOps F] in
/-- A device may wait on a staging semaphore whatever it owes: those come first. -/
theorem mayWait_stage (c : Dev nD) (q : DmaSem sig) (hq : lev (.dma q) = 0) (o : CellTallies nD τ sig Unit)
    (ho : o = O₀ c ∨ o = 0) : (levAts L lv : sProp 𝕄) ⊢ MayWait (c : Thread nD τ) (.dma q) () o := by
  have h : ∀ i, lev (.dma q) < rlev i := fun i => by rw [hq]; unfold rlev; split <;> decide
  rcases ho with rfl | rfl
  · exact mayWait c (.dma q) Finset.univ Finset.univ (fun _ => by rw [hq]; decide) fun i _ => h i
  · rw [← O_none c]; exact mayWait c (.dma q) ∅ ∅ (fun hA => absurd hA Finset.not_nonempty_empty) fun i _ => h i

/-- A device may wait on its staging semaphores before and after the body. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array at the end. -/
def finalA (c : Dev nD) (w : Fin cfg0.W) : Buf (Elt F) ((cfg0.win w).arr.view.loc (c : Thread nD τ)) := (dats m ρ 0 c).arrAt w cfg0.N

/-- All windows' arrays at the end, every counter at zero. -/
def Done : PUnit × MemSt nD τ sig (Elt F) → Prop := fun r =>
  (∀ c : Dev nD, ∀ w : Fin cfg0.W, r.2.mem ((cfg0.win w).arr.view.loc (c : Thread nD τ)) = finalA m ρ c w) ∧ r.2.sem = fun _ => 0

/-- From any memory with all counters at zero, every run ends, with each window's array as stated and all counters at
    zero. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it began. -/
theorem finalA_in (c : Dev nD) : finalA m ρ c (0 : Fin 2) = m ((c : Thread nD τ).loc main_arg0) :=
  (dats (F := F) m ρ 0 c).arrAt_in (0 : Fin 2) rfl _

end Cert.KRun

end
-- ==== Proof.Value.lean ====
/-
# The value

What the run leaves in each device's result, entry by entry over the extended reals, is the device's block of the
whole array's sum over its first axis.
-/
module

public import proofs.«01_k».proof.Defs
public import proofs.«01_k».proof.Proof.Run
public import proofs.«01_k».proof.Proof.Gen.ReferenceIdeal
public import Idealize.ShloMosaic.Lib.IdealHost
public import Idealize.ShloMosaic.Lib.Pipeline.Value
public import Idealize.ShloMosaic.PureOps.Ideal.Laws

@[expose] public section

set_option maxRecDepth 8000

noncomputable section

namespace Cert.KRun

open Cert.KernelIdeal Cert.KernelIdeal.Gen
open Idealize.ShloMosaic
open Idealize.ShloMosaic.TcCoe
open Idealize.ShloMosaic.Pipeline (Dat)

/-! ## The arrays the run reads and writes -/

section
variable {F : FTy → Type} [FloatOps F] (m : (l : Loc nD τ sig) → Buf (Elt F) l) (ρ : Dev nD → PrngReg)

/-- The one block of the argument is all of it. -/
theorem xs_eq (c : Dev nD) : xs m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends with what the body stored. -/
theorem finalA_out (c : Dev nD) : finalA m ρ c (1 : Fin 2) = outv (xs m ρ) c := by
  have hz : (fun a => (win0_1.index (0 : Fin 1)) a * main_v1.ty.shape.size a) = fun _ => 0 :=
    funext fun a => by fin_cases a <;> decide
  have hr : ∀ f, (win0_1.blk (0 : Fin 1)).view.read (Elt F) f = f := fun f =>
    Memref.read_access_unit_zero (Elt F) main_v1 hz (fun a => by fin_cases a <;> decide) f
  have ho : (win0_1.blk (0 : Fin 1)).view.read (Elt F) (finalA m ρ c (1 : Fin 2)) = outv (xs m ρ) c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (hr _).symm.trans ho

/-- The half a device keeps starts, in its input, at the columns it keeps. -/
theorem kept_half_apply (X : Inputs F) (c : Dev nD) (j : S512x512.Idx) :
    shapeCast S512x512 (kept_half X c) shapeCasts_S1x512x512_S512x512 j = X c (xidx c j) := by
  refine (shapeCast_dropUnit_apply ![512, 512] (kept_half X c) shapeCasts_S1x512x512_S512x512 j).trans ?_
  unfold kept_half
  rw [View.readAt_apply]
  refine (congrFun (View.read_whole cc0_stg0_0 (X c)) _).trans (congrArg (X c) (funext fun a => Fin.ext ?_))
  have hoff := congrFun (k0_off7_eq c) a
  show k0_off7 c a + 1 * _ = _
  rw [hoff]
  match a with
  | ⟨0, _⟩ => rfl
  | ⟨1, _⟩ => show 0 + 1 * (j 0).val = (j 0).val; omega
  | ⟨2, _⟩ => show 512 * (c.val / 4) + 1 * (j 1).val = 512 * (c.val / 4) + (j 1).val; omega

end

/-! ## The sum -/

/-- An entry of the whole argument. -/
def at3 (k : Fin 2) (r : Fin 512) (q : Fin 1024) : Cert.ReferenceIdeal.S2x512x1024.Idx := fun a => match a with
  | ⟨0, _⟩ => k
  | ⟨1, _⟩ => r
  | ⟨2, _⟩ => q

/-- The row of a result entry. -/
def row (j : S512x512.Idx) : Fin 512 := ⟨(j 0).val, (j 0).isLt⟩

/-- The column, in the whole result, of an entry of device `c`'s. -/
def col (c : Dev nD) (j : S512x512.Idx) : Fin 1024 := ⟨512 * (c.val / 4) + (j 1).val, by
  have h1 : (j 1).val < 512 := (j 1).isLt
  have h2 : c.val < 8 := c.isLt
  omega⟩

/-- Which half of the whole argument a device starts with. -/
def half (c : Dev nD) : Fin 2 := ⟨c.val / 4, by
  have h2 : c.val < 8 := c.isLt
  omega⟩

/-- An owner starts with the other half. -/
theorem half_owner (c : Dev nD) (q : Fin 4) : half (owner c q) = 1 - half c := by
  revert c q; decide

/-- The halves of the two devices that meet are the two halves, in one order or the other. -/
theorem half_cases (c : Dev nD) : half c = 0 ∨ half c = 1 := by
  revert c; decide

variable (x : Cert.ReferenceIdeal.S2x512x1024.Idx → Elt Ideal .f32)

/-- Device `e`'s part of the argument, at the entry device `c` needs. -/
theorem part_apply (e c : Dev nD) (j : S512x512.Idx) :
    Layout.blockN ⟨3, ![1, 512, 1024]⟩ ⟨3, ![2, 512, 1024]⟩ (Layout.meshBlock [2, 2, 2] ![[0], [], []] e) x (by decide) (xidx c j)
      = x (at3 (half e) (row j) (col c j)) := by
  rw [Layout.blockN_apply]
  refine congrArg x (funext fun a => Fin.ext ?_)
  rw [Layout.TilesN.idx_val]
  have h2 : e.val < 8 := e.isLt
  match a with
  | ⟨0, _⟩ =>
    show (e.val / 4 % 2 * 1 + 0) * 1 + 0 = e.val / 4
    omega
  | ⟨1, _⟩ => show 0 * 512 + (j 0).val = (j 0).val; omega
  | ⟨2, _⟩ => show 0 * 1024 + (512 * (c.val / 4) + (j 1).val) = 512 * (c.val / 4) + (j 1).val; omega

/-- What device `c` stores, of inputs that are the parts of `x`: the two halves' entries, added. -/
theorem outv_apply (X : Inputs Ideal)
    (hX : ∀ e, X e = Layout.blockN ⟨3, ![1, 512, 1024]⟩ ⟨3, ![2, 512, 1024]⟩ (Layout.meshBlock [2, 2, 2] ![[0], [], []] e) x)
    (c : Dev nD) (j : S512x512.Idx) :
    outv X c j = (x (at3 0 (row j) (col c j)) + x (at3 1 (row j) (col c j)) : EReal) := by
  have h1 : X c (xidx c j) = x (at3 (half c) (row j) (col c j)) := by rw [hX]; exact part_apply x c c j
  have h2 : landed X c j = x (at3 (1 - half c) (row j) (col c j)) := by
    unfold landed; rw [hX, ← half_owner c (quarter j)]; exact part_apply x (owner c (quarter j)) c j
  have h : outv X c j = (X c (xidx c j) + landed X c j : EReal) := by
    rw [← kept_half_apply X c j]; rfl
  rw [h, h1, h2]
  rcases half_cases c with hc | hc <;> rw [hc]
  · rfl
  · exact add_comm _ _

/-- The reference's value at a result entry: the two halves' entries, added. -/
theorem ref_apply (r : Fin 512) (q : Fin 1024) (k : Cert.ReferenceIdeal.S512x1024.Idx) (h0 : (k 0).val = r.val) (h1 : (k 1).val = q.val) :
    Host.reduceAdd (F := Ideal) (φ := .f32) x (constant Cert.ReferenceIdeal.S_ .f32 0x00000000#32)
        Cert.ReferenceIdeal.Gen.reducesTo_S2x512x1024_S512x1024_d0 Cert.ReferenceIdeal.Gen.h_S_ k
      = (x (at3 0 r q) + x (at3 1 r q) : EReal) := by
  have hr : Shape.Reduces ⟨3, ![2, 512, 1024]⟩ [0] ⟨2, ![512, 1024]⟩ := by decide
  have hl : ∀ d : Fin 2, hr.lift k d = at3 d r q := fun d => funext fun a => Fin.ext (match a with
    | ⟨0, _⟩ => rfl
    | ⟨1, _⟩ => h0
    | ⟨2, _⟩ => h1)
  rw [ValueIdx.hostReduceAdd_apply]
  refine (Ideal.hostReduceAdd_single _ hr x _ k).trans ?_
  have hi : (constant (F := Ideal) Cert.ReferenceIdeal.S_ .f32 0x00000000#32)
      (Shape.Idx.first Cert.ReferenceIdeal.Gen.h_S_) = (0 : EReal) := Ideal.ofBits_zero_f32
  have hs : ∑ d : Fin 2, (x (hr.lift k d) : EReal) = x (at3 0 r q) + x (at3 1 r q) := by
    rw [Fin.sum_univ_two, hl, hl]
  exact (congrArg₂ (fun u v : EReal => u + v) hi hs).trans (zero_add _)

/-- Device `c`'s block of the reference's value is what it stores. -/
theorem outv_block (X : Inputs Ideal)
    (hX : ∀ e, X e = Layout.blockN ⟨3, ![1, 512, 1024]⟩ ⟨3, ![2, 512, 1024]⟩ (Layout.meshBlock [2, 2, 2] ![[0], [], []] e) x)
    (c : Dev nD) :
    outv X c = Layout.blockN ⟨2, ![512, 512]⟩ ⟨2, ![512, 1024]⟩ (Layout.meshBlock [2, 2, 2] ![[], [0]] c)
      (Host.reduceAdd (F := Ideal) (φ := .f32) x (constant Cert.ReferenceIdeal.S_ .f32 0x00000000#32)
        Cert.ReferenceIdeal.Gen.reducesTo_S2x512x1024_S512x1024_d0 Cert.ReferenceIdeal.Gen.h_S_) := by
  funext j
  have hc : c.val < 8 := c.isLt
  rw [Layout.blockN_apply, outv_apply x X hX c j]
  refine (ref_apply x (row j) (col c j) _ ?_ ?_).symm
  · show 0 * 512 + (j 0).val = (j 0).val; omega
  · show (c.val / 4 % 2 * 1 + 0) * 512 + (j 1).val = 512 * (c.val / 4) + (j 1).val; omega

end Cert.KRun

end
-- ==== Proof.lean ====
/-
# The claims

The kernel's run is proved once, over any float values; here it is read at the machine's words and at the extended
reals, and put beside the reference's run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel and its ideal reading have the same bodies: the ideal reading changed no operation. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (_, _) => rfl

/-- So they have the same procedures. -/
theorem defs_eq : Cert.Kernel.defs (F := Bits) = Cert.KernelIdeal.defs (F := Bits) :=
  congrArg (Pipeline.defs Cert.KernelIdeal.pcfgs) bodies_eq

/-- The kernel ends on every device, its argument as it was and every counter at zero. -/
theorem frame_kernel : Cert.quiescent_Kernel := fun m ρ _ => by
  have h : θ_run (Cert.KernelIdeal.defs (F := Bits)) (onTc (τ := Cert.KernelIdeal.τ) (Cert.KernelIdeal.main (F := Bits)))
      (Cert.KRun.s₀ (F := Bits) m ρ) (fun r => (∀ c : Dev Cert.KernelIdeal.nD,
        r.2.mem ((c : Thread Cert.KernelIdeal.nD Cert.KernelIdeal.τ).loc Cert.KernelIdeal.main_arg0)
          = m ((c : Thread Cert.KernelIdeal.nD Cert.KernelIdeal.τ).loc Cert.KernelIdeal.main_arg0)) ∧ r.2.sem = fun _ => 0) :=
    (θ_run Cert.KernelIdeal.defs _ _).mono
      (fun _ h => ⟨fun c => (h.1 c (0 : Fin 2)).trans (Cert.KRun.finalA_in (F := Bits) m ρ c), h.2⟩)
      (Cert.KRun.run_main (F := Bits) m ρ)
  rw [← defs_eq] at h
  exact h

/-- So does its ideal reading. -/
theorem frame_ideal : Cert.quiescent_KernelIdeal := fun m ρ _ =>
  (θ_run Cert.KernelIdeal.defs _ _).mono
    (fun _ h => ⟨fun c => (h.1 c (0 : Fin 2)).trans (Cert.KRun.finalA_in (F := Ideal) m ρ c), h.2⟩)
    (Cert.KRun.run_main (F := Ideal) m ρ)

/-- So does the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On every device the kernel's result is its block of the sum, over the first axis, of the whole argument. -/
theorem value : Cert.algebraic_KernelIdeal_ReferenceIdeal := fun m ρ m' ρ' _ hm => by
  refine ⟨_, ?_, (θ_run Cert.ReferenceIdeal.defs _ _).mono (fun r h => h 0) (Cert.ReferenceIdeal.Value.run (F := Ideal) m' ρ')⟩
  refine (θ_run Cert.KernelIdeal.defs _ _).mono (fun _ h c => ⟨?_, ?_⟩) (Cert.KRun.run_main (F := Ideal) m ρ)
  · refine (h.1 c (1 : Fin 2)).trans ((Cert.KRun.finalA_out (F := Ideal) m ρ c).trans ?_)
    exact Cert.KRun.outv_block _ (Cert.KRun.xs m ρ) (fun e => (Cert.KRun.xs_eq m ρ e).trans (hm e)) c
  · exact (h.1 c (0 : Fin 2)).trans (Cert.KRun.finalA_in (F := Ideal) m ρ c)

/-- All the claims of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
